-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384x13 : Shape := ⟨2, ![16384, 13]⟩
abbrev S16384x26 : Shape := ⟨2, ![16384, 26]⟩
abbrev S16x13 : Shape := ⟨2, ![16, 13]⟩
abbrev S16 : Shape := ⟨1, ![16]⟩
abbrev S2600000x16 : Shape := ⟨2, ![2600000, 16]⟩
abbrev S1x16 : Shape := ⟨2, ![1, 16]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : FVec F S16384x13 .f32) (main_arg1 : IVec S16384x26 32) (main_arg2 : FVec F S16x13 .f32) (main_arg3 : FVec F S16 .f32) (main_arg4 : FVec F S2600000x16 .f32) (main_arg5 : FVec F S1x16 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x13 : Shape := ⟨2, ![16384, 13]⟩
abbrev S16384x26 : Shape := ⟨2, ![16384, 26]⟩
abbrev S16x13 : Shape := ⟨2, ![16, 13]⟩
abbrev S16 : Shape := ⟨1, ![16]⟩
abbrev S2600000x16 : Shape := ⟨2, ![2600000, 16]⟩
abbrev S1x16 : Shape := ⟨2, ![1, 16]⟩
abbrev S13x16 : Shape := ⟨2, ![13, 16]⟩
abbrev S16384x16 : Shape := ⟨2, ![16384, 16]⟩
abbrev S425984 : Shape := ⟨1, ![425984]⟩
abbrev S3328 : Shape := ⟨1, ![3328]⟩
abbrev S3328x16 : Shape := ⟨2, ![3328, 16]⟩
abbrev S128x16 : Shape := ⟨2, ![128, 16]⟩
abbrev S_ : Shape := ⟨0, ![]⟩
abbrev S128 : Shape := ⟨1, ![128]⟩

abbrev nBuf : Table → Nat
  | .hbm => 11
  | .local .tc .vmem => 5
  | .local .scVector .vmem => 4
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S16x13, .f32⟩
  | .hbm, ⟨3, _⟩ => ⟨S16, .f32⟩
  | .hbm, ⟨4, _⟩ => ⟨S2600000x16, .f32⟩
  | .hbm, ⟨5, _⟩ => ⟨S1x16, .f32⟩
  | .hbm, ⟨6, _⟩ => ⟨S13x16, .f32⟩
  | .hbm, ⟨7, _⟩ => ⟨S1x16, .f32⟩
  | .hbm, ⟨8, _⟩ => ⟨S16384x16, .f32⟩
  | .hbm, ⟨9, _⟩ => ⟨S425984, .i32⟩
  | .hbm, ⟨10, _⟩ => ⟨S16384x16, .f32⟩
  | .local .tc .vmem, ⟨0, _⟩ => ⟨S16384x13, .f32⟩
  | .local .tc .vmem, ⟨1, _⟩ => ⟨S13x16, .f32⟩
  | .local .tc .vmem, ⟨2, _⟩ => ⟨S1x16, .f32⟩
  | .local .tc .vmem, ⟨3, _⟩ => ⟨S1x16, .f32⟩
  | .local .tc .vmem, ⟨4, _⟩ => ⟨S16384x16, .f32⟩
  | .local .scVector .vmem, ⟨0, _⟩ => ⟨S3328, .i32⟩
  | .local .scVector .vmem, ⟨1, _⟩ => ⟨S3328x16, .f32⟩
  | .local .scVector .vmem, ⟨2, _⟩ => ⟨S128x16, .f32⟩
  | .local .scVector .vmem, ⟨3, _⟩ => ⟨S128x16, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v3_scv : Ref sig .scVector := ⟨.hbm, 9, rfl⟩
abbrev main_v2_scv : Ref sig .scVector := ⟨.hbm, 8, rfl⟩
abbrev main_arg4_scv : Ref sig .scVector := ⟨.hbm, 4, rfl⟩
abbrev main_v4_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S16384x13 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg11 : BitVec 32 := Scf.iv c0_i32_0 c1_i32 k1_t1
  let c128_i32 : BitVec 32 := 128#32
  let v4 : BitVec 32 := Scalar.muli arg11 c128_i32
  let v5 : BitVec 32 := Scalar.addi v2 v4
  let c26_i32 : BitVec 32 := 26#32
  let v6 : BitVec 32 := Scalar.muli v5 c26_i32
  ![v6.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg11 : BitVec 32 := Scf.iv c0_i32_0 c1_i32 k1_t1
  let c128_i32 : BitVec 32 := 128#32
  let v4 : BitVec 32 := Scalar.muli arg11 c128_i32
  let v5 : BitVec 32 := Scalar.addi v2 v4
  let c0_i32_248_r1 : BitVec 32 := 0#32
  ![v5.toNat, 0]
@[reducible] def k1_t2_loop : Scf.Loop 32 :=
  let c0_i32_3 : BitVec 32 := 0#32
  let c208_i32 : BitVec 32 := 208#32
  let v7 : BitVec 32 := Scalar.addi c0_i32_3 c208_i32
  let c1_i32_4 : BitVec 32 := 1#32
  ⟨c0_i32_3, v7, c1_i32_4⟩
def k1_off3 (k1_t2 : Fin k1_t2_loop.trips) : Fin 1 → Nat :=
  let c0_i32_3 : BitVec 32 := 0#32
  let c1_i32_4 : BitVec 32 := 1#32
  let arg12 : BitVec 32 := Scf.iv c0_i32_3 c1_i32_4 k1_t2
  let c16_i32 : BitVec 32 := 16#32
  let v165 : BitVec 32 := Scalar.muli arg12 c16_i32
  let v185 : Index := Scalar.indexCast v165
  ![v185.toNat]
@[reducible] def k1_t3_loop : Scf.Loop 32 :=
  let c0_i32_244 : BitVec 32 := 0#32
  let c128_i32_245 : BitVec 32 := 128#32
  let v164 : BitVec 32 := Scalar.addi c0_i32_244 c128_i32_245
  let c1_i32_246 : BitVec 32 := 1#32
  ⟨c0_i32_244, v164, c1_i32_246⟩
def k1_off4 (k1_t3 : Fin k1_t3_loop.trips) : Fin 2 → Nat :=
  let c0_i32_244 : BitVec 32 := 0#32
  let c1_i32_246 : BitVec 32 := 1#32
  let arg12 : BitVec 32 := Scf.iv c0_i32_244 c1_i32_246 k1_t3
  let v166 : Index := Scalar.indexCast arg12
  let c0 : Index := 0#32
  ![v166.toNat, 0]
def k1_off5 (k1_t3 : Fin k1_t3_loop.trips) (c0_i32_249 : BitVec 32) : Fin 2 → Nat :=
  let c0_i32_244 : BitVec 32 := 0#32
  let c1_i32_246 : BitVec 32 := 1#32
  let arg12 : BitVec 32 := Scf.iv c0_i32_244 c1_i32_246 k1_t3
  let c26_i32_248 : BitVec 32 := 26#32
  let v165 : BitVec 32 := Scalar.muli arg12 c26_i32_248
  let v169 : BitVec 32 := Scalar.addi v165 c0_i32_249
  let v170 : Index := Scalar.indexCast v169
  let c0_250 : Index := 0#32
  ![v170.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x13 : Shape := ⟨2, ![16384, 13]⟩
abbrev S16384x26 : Shape := ⟨2, ![16384, 26]⟩
abbrev S16x13 : Shape := ⟨2, ![16, 13]⟩
abbrev S16 : Shape := ⟨1, ![16]⟩
abbrev S2600000x16 : Shape := ⟨2, ![2600000, 16]⟩
abbrev S1x16 : Shape := ⟨2, ![1, 16]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1 : Shape := ⟨1, ![1]⟩
abbrev S1x1x1 : Shape := ⟨3, ![1, 1, 1]⟩
abbrev S16384x26x16 : Shape := ⟨3, ![16384, 26, 16]⟩
abbrev S16384x16 : Shape := ⟨2, ![16384, 16]⟩
abbrev S13x16 : Shape := ⟨2, ![13, 16]⟩

abbrev nBuf : Space → Nat
  | .hbm => 49
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S16x13, .f32⟩
  | .hbm, ⟨3, _⟩ => ⟨S16, .f32⟩
  | .hbm, ⟨4, _⟩ => ⟨S2600000x16, .f32⟩
  | .hbm, ⟨5, _⟩ => ⟨S1x16, .f32⟩
  | .hbm, ⟨6, _⟩ => ⟨S26, .i32⟩
  | .hbm, ⟨7, _⟩ => ⟨S_, .i32⟩
  | .hbm, ⟨8, _⟩ => ⟨S26, .i32⟩
  | .hbm, ⟨9, _⟩ => ⟨S26, .i32⟩
  | .hbm, ⟨10, _⟩ => ⟨S1x26, .i32⟩
  | .hbm, ⟨11, _⟩ => ⟨S16384x26, .i32⟩
  | .hbm, ⟨12, _⟩ => ⟨S16384x26, .i32⟩
  | .hbm, ⟨13, _⟩ => ⟨S_, .i32⟩
  | .hbm, ⟨14, _⟩ => ⟨S16384x26, .i32⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S16384x26x1, .i32⟩
  | .hbm, ⟨21, _⟩ => ⟨S1, .i32⟩
  | .hbm, ⟨22, _⟩ => ⟨S_, .i32⟩
  | .hbm, ⟨23, _⟩ => ⟨S16384x26x1, .i32⟩
  | .hbm, ⟨24, _⟩ => ⟨S16384x26x1, .i1⟩
  | .hbm, ⟨25, _⟩ => ⟨S1x1x1, .i32⟩
  | .hbm, ⟨26, _⟩ => ⟨S16384x26x1, .i32⟩
  | .hbm, ⟨27, _⟩ => ⟨S16384x26x1, .i1⟩
  | .hbm, ⟨28, _⟩ => ⟨S16384x26x1, .i1⟩
  | .hbm, ⟨29, _⟩ => ⟨S_, .i1⟩
  | .hbm, ⟨30, _⟩ => ⟨S16384x26, .i1⟩
  | .hbm, ⟨31, _⟩ => ⟨S16384x26x16, .f32⟩
  | .hbm, ⟨32, _⟩ => ⟨S16384x26x16, .i1⟩
  | .hbm, ⟨33, _⟩ => ⟨S_, .f32⟩
  | .hbm, ⟨34, _⟩ => ⟨S16384x26x16, .f32⟩
  | .hbm, ⟨35, _⟩ => ⟨S16384x26x16, .f32⟩
  | .hbm, ⟨36, _⟩ => ⟨S_, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S13x16, .f32⟩
  | .hbm, ⟨41, _⟩ => ⟨S16384x16, .f32⟩
  | .hbm, ⟨42, _⟩ => ⟨S1x16, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S_, .f32⟩
  | .hbm, ⟨47, _⟩ => ⟨S16384x16, .f32⟩
  | .hbm, ⟨48, _⟩ => ⟨S16384x16, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call1_cst : Ref sig .tc := ⟨.hbm, 46, rfl⟩
abbrev main_call1_v0 : Ref sig .tc := ⟨.hbm, 47, rfl⟩
abbrev main_v16 : Ref sig .tc := ⟨.hbm, 48, rfl⟩

abbrev nD : Nat := 1
abbrev τ : Topo := Topo.v7x

variable {F : FTy → Type} [FloatOps F]
-- ==== Proof.GatherBatch.lean ====
/-
  One indirect gather issued as PART OF A BATCH of row transfers on one DMA semaphore.

  Several indirect gathers are started on one semaphore before any of them is waited for. Each gather serves
  its offset list entry by entry, one row transfer per entry, and every row credits the semaphore the same number of
  units. So all rows of all gathers are one batch (`Transfers.Batch`): row `t` of the batch delivers `D t`, stated once
  for the whole batch; a gather issued when `k` rows have been issued issues the rows `k, k + 1, …`, one per entry.
-/
module

public import Idealize.ShloMosaic.Lib.Batch
public import Idealize.ShloMosaic.Lib.SparseCore.Stream
public import Idealize.ShloMosaic.Lib.Tactic

@[expose] public section

noncomputable section

namespace Cert.Proof.GatherBatch

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers (Batch batchBody batch_creditUpdate pending)

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

section Pending

variable {n o : ℕ}

/-- The next `o` transfers of a batch, `k` issued. -/
def nextRow (k : ℕ) (hk : k + o ≤ n) (j : Fin o) : Fin n := ⟨k + j.val, by have := j.isLt; omega⟩

/-- What the transfers from `k` on hold is what the next `o` hold, beside what the later ones hold. -/
theorem bigSep_pending_add (Φ : Fin n → sProp 𝕄) (k : ℕ) (hk : k + o ≤ n) :
    bigSep (pending k) Φ = iprop((bigSep Finset.univ fun j : Fin o => Φ (nextRow k hk j)) ∗ bigSep (pending (k + o)) Φ) := by
  have hinj : Function.Injective (nextRow (n := n) (o := o) k hk) := fun i j h => by
    have := congrArg Fin.val h; simp only [nextRow] at this; exact Fin.ext (by omega)
  have hset : pending (n := n) k = (Finset.univ.map ⟨nextRow k hk, hinj⟩) ∪ pending (k + o) := by
    ext t
    simp only [pending, Finset.mem_filter, Finset.mem_univ, _root_.true_and, Finset.mem_union, Finset.mem_map, Function.Embedding.coeFn_mk]
    constructor
    · intro h
      by_cases h' : k + o ≤ t.val
      · exact Or.inr h'
      · exact Or.inl ⟨⟨t.val - k, by omega⟩, Fin.ext (by simp only [nextRow]; omega)⟩
    · rintro (⟨j, rfl⟩ | h)
      · simp only [nextRow]; omega
      · omega
  have hdisj : Disjoint (Finset.univ.map ⟨nextRow (n := n) (o := o) k hk, hinj⟩) (pending (k + o)) := by
    refine Finset.disjoint_left.mpr fun t h h' => ?_
    obtain ⟨j, -, rfl⟩ := Finset.mem_map.mp h
    have := j.isLt
    simp only [pending, Finset.mem_filter, Function.Embedding.coeFn_mk, nextRow] at h'
    omega
  rw [hset, BI.bigSep_union hdisj, BI.bigSep_map]
  rfl

end Pending

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Entry `j` of an offset list, as an index of the list's shape. -/
abbrev entryOf {o : ℕ} (hn : si.numel = o) (j : Fin o) : si.Idx := si.rowMajor.symm (j.cast hn.symm)

/-- What row transfer `j` of a gather holds: its destination row at contents `f`, its offset entry at a share, a share of the
    source. -/
def rowHeld (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fo : Buf (Elt F) (offs.view.loc c))
    (j : Fin (s.size hg.axis')) (f : Buf (Elt F) (dst.view.loc c)) : sProp 𝕄 :=
  iprop(((dst.view.loc c ↦[(dst.view.slice (s.rowRect hg.axis' j)).set]{fullShare} f)
      ∗ (offs.view.loc c ↦[{offs.view.emb (entryOf hn j)}]{qo} fo)) ∗ (src.view.loc c ↦[src.view.set]{q} fs))

/-- AN INDIRECT GATHER ISSUED INTO A BATCH. `k` rows of the batch issued, `R t` what row `t` needs: the next rows of
    `R` give the gather its destination rows, its offset entries (every word in range, `hin`) and a source share each; each
    row's delivery — its destination row written with the source row its entry names, its entry and its source share
    back — is the batch's `D` there. The tile continues holding the rows' `R` after these and the batch with these issued. -/
theorem wp_gatherBatch [Infinite Name] [EC.LandsIn (upEmb : UEmb _ 𝕄)] {n : ℕ} {D R : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {qo : PosShare TreeShare} {fs : Buf (Elt F) (src.view.loc c)} {fd : Buf (Elt F) (dst.view.loc c)} {fo : Buf (Elt F) (offs.view.loc c)}
    (ι : Ix) (N k u : ℕ) (hk : k + s.size hg.axis' ≤ n) (hu : u ≤ k * N)
    (hN : ∀ j, (dst.slice (s.rowRect hg.axis' j) (s.stride_rowRect hg.axis' j)).view.dmaCredit = N)
    (hin : ∀ x, (offs.view.read (Elt F) fo x).toNat < s₀.size hg.axis)
    (q : Fin (s.size hg.axis') → PosShare TreeShare)
    (hR : ∀ j, R (nextRow k hk j) ⊢ rowHeld c src dst hg offs hn (q j) qo fs fo j fd)
    (hD : ∀ j, rowHeld c src dst hg offs hn (q j) qo fs fo j
        ((dst.view.slice (s.rowRect hg.axis' j)).write (Elt F) fd
          (fun i => src.view.read (Elt F) fs (hg.rowIdx (rows (offs.view.read (Elt F) fo) hn hin j) i)) Finset.univ) ⊢ D (nextRow k hk j)) :
    iprop(bigSep (pending k) R ∗ Batch EC c (.dma sem) ι N D k u)
      ⊢ iprop((iprop(bigSep (pending (k + s.size hg.axis')) R ∗ Batch EC c (.dma sem) ι N D (k + s.size hg.axis') u)
              -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have htot : ∑ j, (rd j).dst.view.dmaCredit = s.size hg.axis' * N := by
    rw [Finset.sum_congr rfl fun j _ => hN j, Finset.sum_const, Finset.card_univ, Fintype.card_fin, smul_eq_mul]
  unfold Batch
  iintro ⟨HR, ⟨%γ, %γ₀, %κ, #Hinv, HI, H0, Hcred⟩⟩ Hk
  ihave HR' := (Entails.of_eq (bigSep_pending_add R k hk)) $$ HR
  ihave HI' := (Entails.of_eq (bigSep_pending_add (fun t => count EC (γ t) 0) k hk)) $$ HI
  icases HR' with ⟨HRn, HR⟩
  icases HI' with ⟨HIn, HI⟩
  iapply (wp_enqueueIndirectDma 𝒱 c bd Set.univ (qo := qo) (fo := fo) (rd := rd) ι (s.size hg.axis' * N) hA hrd htot) $$ [HRn HIn]
  · have hrow : ∀ j : Fin (s.size hg.axis'), iprop(inv κ (batchBody EC (c, SemLoc.dma sem) N D γ γ₀)
          ∗ (R (nextRow k hk j) ∗ count EC (γ (nextRow k hk j)) 0))
        ⊢ iprop(S.heldEntry qo fo j ∗ (S.heldEntry qo fo j -∗ rowRes c (rd j))) := fun j => by
      iintro ⟨#Hinv, ⟨HRj, Hγj⟩⟩
      ihave HRj' := (hR j) $$ HRj
      unfold rowHeld
      icases HRj' with ⟨⟨Hr, He⟩, Hsq⟩
      isplitl [He]; · iexact He
      iintro He
      unfold rowRes
      iexists q j, fs, iprop((dst.view.loc c ↦[(dst.view.slice (s.rowRect hg.axis' j)).set]{fullShare} ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (batch_creditUpdate EC (D := D) (γ₀ := γ₀) (nextRow k hk j) (hD j))
        isplitr; · iexact Hinv
        iexact Hγj
    unfold Stream.res
    ihave H3 := Transfers.bigSep_sep_in _ _ _ $$ [HRn HIn]; · isplitl [HRn] <;> iassumption
    iapply (Transfers.bigSep_mono_pers Finset.univ _ _ _ fun j _ => hrow j)
    isplitr; · iexact Hinv
    iexact H3
  · iintro Hcred'
    iapply Hk
    isplitl [HR]; · iexact HR
    iexists γ, γ₀, κ
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hcred' as H
    iexact H

end Cert.Proof.GatherBatch
-- ==== Proof.Setup.lean ====
/-
  The program as the launch theorem sees it, the proof's resource algebra, and the names of the arrays, the tiles' scratch
  buffers and their views.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Setup

open Cert.KernelIdeal Cert.KernelIdeal.Gen
open Idealize.ShloMosaic
open Idealize.ShloMosaic.SparseCore (V)
open Idealize.ShloMosaic.SparseCore.Cfg (HIx)
open Idealize.SL Idealize.SL.RA Idealize.SL.BI Idealize.SL.Sem
open Idealize.ShloMosaic.Rounds

variable {F : FTy → Type}

/-! ## The program as the launch theorem sees it -/

/-- The labels of the program's procedures, the dense pipeline's included. -/
abbrev ΛP : Labels := Pipeline.Sig Λ₀ (Fin 1) fun p => (pcfgs (F := F) p).Adm
/-- The SparseCore call. -/
abbrev K : SparseCore.Cfg τ sig (ΛP (F := F)) 1 := sc (F := F)
/-- It runs on 16 tiles -/
theorem nSub_zero : (K (F := F)).nSub 0 = 16 := rfl
/-- of each of 2 cores. -/
theorem nCore_zero : (K (F := F)).nCore 0 = 2 := rfl
/-- The program's procedures. -/
abbrev D [FloatOps F] : Defs nD τ sig (Elt F) (ΛP (F := F)) := Pipeline.defs pcfgs defs₀
/-- No procedure recurs, so no variant is needed: -/
abbrev 𝒱₀ : Variants := Variants.none
/-- nor with the pipeline's, -/
abbrev 𝒱 : Variants := 𝒱₀.lift
/-- the variant at which all is proved. -/
abbrev v₀ : 𝒱.V := Sum.inl none

/-- The call's semaphores are apart and outlive it, and it shares no scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra: the handshakes, the dense pipeline's staging cells, the transfers' counters -/

/-- The handshakes' resources; -/
abbrev UH : Type := URounds (GSem nD τ sig) ℕ
/-- the dense pipeline's; -/
abbrev UP : Type := UR sig nD τ
/-- all of them, with the transfers' counters. -/
abbrev UU : Type := UH × (UP × Counters)

/-- Where the handshakes' lie, -/
abbrev EH : Emb UH (MT nD τ sig (HIx 1) (Elt F) ℕ UU ℕ) := embL
/-- and the pipeline's. -/
abbrev EP : Emb UP (MT nD τ sig (HIx 1) (Elt F) ℕ UU ℕ) := (Emb.inl : Emb UP (UP × Counters)).trans embR

/-! ## The arrays in high-bandwidth memory -/

section Arrays
variable (d : Dev nD)
/-- The ids, flat; the dense output; the table; the result. -/
abbrev idLoc : Loc nD τ sig := (SparseCore.T d).loc main_v3
abbrev dnLoc : Loc nD τ sig := (SparseCore.T d).loc main_v2
abbrev tbLoc : Loc nD τ sig := (SparseCore.T d).loc main_arg4
abbrev outLoc : Loc nD τ sig := (SparseCore.T d).loc main_v4
end Arrays

/-- As a tile addresses them. -/
abbrev idV : Memref sig .scVector .hbm S425984 .i32 := Memref.whole main_v3_scv
abbrev dnV : Memref sig .scVector .hbm S16384x16 .f32 := Memref.whole main_v2_scv
abbrev tbV : Memref sig .scVector .hbm S2600000x16 .f32 := Memref.whole main_arg4_scv
abbrev outV : Memref sig .scVector .hbm S16384x16 .f32 := Memref.whole main_v4_scv
/-- A tile's scratch: a block's row numbers, its gathered rows, its dense rows, its output rows. -/
abbrev ixS : Memref sig .scVector .vmem S3328 .i32 := Memref.whole cc1_scratch0
abbrev rwS : Memref sig .scVector .vmem S3328x16 .f32 := Memref.whole cc1_scratch1
abbrev dnS : Memref sig .scVector .vmem S128x16 .f32 := Memref.whole cc1_scratch2
abbrev otS : Memref sig .scVector .vmem S128x16 .f32 := Memref.whole cc1_scratch3

/-! ## A tile's coordinates -/

/-- The tile's core, -/
abbrev cV (L : grid1.Coords) : Fin τ.nSC := (L 0).castLE hcore1
/-- and its number there. -/
abbrev jV (L : grid1.Coords) : Fin τ.nSub := (L 1).castLE hsub1
/-- The tile's thread. -/
abbrev thr (d : Dev nD) (L : grid1.Coords) : Thread nD τ := V d (cV L) (jV L)
/-- The effects of the tile's program. -/
abbrev Eff (F : FTy → Type) (L : grid1.Coords) := TpuEff nD τ sig (Elt F) Λ₀ (.scVector ((L 0).castLE hcore1) ((L 1).castLE hsub1))

end Cert.Proof.Setup
-- ==== Proof.Text.lean ====
/-
  The tile program's trip, regrouped: the two fetches, the shifting loop, the 26 indirect gathers, their 26 waits, the summing
  loop, the write-out. Each regrouping is an equality of programs by unfolding.
-/
module

public import proofs.«01_k».proof.Proof.Setup

@[expose] public section

noncomputable section

namespace Cert.Proof.Text

open Cert.KernelIdeal Cert.KernelIdeal.Gen Cert.Proof.Setup
open Idealize.ShloMosaic
open Idealize.SL.Sem

variable {F : FTy → Type} [FloatOps F]

/-! ## The gathers -/

/-- A gather's rows lie in the buffer. -/
theorem rows_inb (g : Fin 26) : ∀ a, (![128 * g.val, 0] : Fin 2 → ℕ) a + S128x16.size a ≤ S3328x16.size a := by
  have := g.isLt
  intro a; fin_cases a
  · show 128 * g.val + 128 ≤ 3328; omega
  · show 0 + 16 ≤ 16; omega
/-- A gather's entries lie in the list. -/
theorem list_inb (g : Fin 26) : ∀ a, (![128 * g.val] : Fin 1 → ℕ) a + S128.size a ≤ S3328.size a := by
  have := g.isLt
  intro a; fin_cases a; show 128 * g.val + 128 ≤ 3328; omega

/-- All of the table; gather `g`'s 128 rows of the row buffer; its 128 entries of the list. -/
abbrev gSrc : Memref sig .scVector .hbm S2600000x16 .f32 :=
  tbV.slice (Rect.unit (s := S2600000x16) ![0, 0] S2600000x16.size inb_S2600000x16_S2600000x16_0_0) (fun _ => rfl)
abbrev gDst (g : Fin 26) : Memref sig .scVector .vmem S128x16 .f32 :=
  rwS.slice (Rect.unit (s := S3328x16) ![128 * g.val, 0] S128x16.size (rows_inb g)) (fun _ => rfl)
abbrev gOffs (g : Fin 26) : Memref sig .scVector .vmem S128 .i32 :=
  ixS.slice (Rect.unit (s := S3328) ![128 * g.val] S128.size (list_inb g)) (fun _ => rfl)

/-- Gathers `k, …, k + o - 1`, issued in order; -/
def issues (L : grid1.Coords) : (o k : ℕ) → k + o ≤ 26 → Prog (Eff F L) PUnit
  | 0, _, _ => pure ⟨⟩
  | o + 1, k, h => SparseCore.enqueueIndirectGather rfl gSrc (gDst ⟨k, by omega⟩) gathers_S2600000x16_S128x16 (gOffs ⟨k, by omega⟩) rfl
      cc1_scratch4.sem (View.wordExact_bits rfl) rfl (Or.inl rfl) >>= fun _ => issues L o (k + 1) (by omega)

/-- and waited for. -/
def waits (L : grid1.Coords) : (o k : ℕ) → k + o ≤ 26 → Prog (Eff F L) PUnit
  | 0, _, _ => pure ⟨⟩
  | o + 1, k, h => SparseCore.waitIndirectGather cc1_scratch4.sem gSrc (gDst ⟨k, by omega⟩) (View.wordExact_bits rfl) (View.wordExact_bits rfl)
      >>= fun _ => waits L o (k + 1) (by omega)

/-! ## The fetches and the write-out -/

/-- Block `t`'s ids, its dense rows, its output rows, in high-bandwidth memory. -/
abbrev idBlk (L : grid1.Coords) (t : Fin k1_t1_loop.trips) : Memref sig .scVector .hbm S3328 .i32 :=
  idV.slice (Rect.unit (s := S425984) (k1_off1 L t) S3328.size (k1_off1_inb L t)) (fun _ => rfl)
abbrev dnBlk (L : grid1.Coords) (t : Fin k1_t1_loop.trips) : Memref sig .scVector .hbm S128x16 .f32 :=
  dnV.slice (Rect.unit (s := S16384x16) (k1_off2 L t) S128x16.size (k1_off2_inb L t)) (fun _ => rfl)
abbrev outBlk (L : grid1.Coords) (t : Fin k1_t1_loop.trips) : Memref sig .scVector .hbm S128x16 .f32 :=
  outV.slice (Rect.unit (s := S16384x16) (k1_off2 L t) S128x16.size (k1_off2_inb L t)) (fun _ => rfl)

/-- Block `t`'s ids and dense rows copied in, each waited for. -/
def fetch (L : grid1.Coords) (t : Fin k1_t1_loop.trips) : Prog (Eff F L) PUnit := do
  Prog.lift (.enqueueDma (idBlk L t) (.here ixS) (.dma cc1_scoped0.sem) (View.wordExact_bits rfl) (Memref.isWhole_whole _).wordExact ⟨Or.inl rfl, trivial⟩)
  Prog.lift (.waitDma2 cc1_scoped0.sem (idBlk L t) ixS (View.wordExact_bits rfl) (Memref.isWhole_whole _).wordExact)
  Prog.lift (.enqueueDma (dnBlk L t) (.here dnS) (.dma cc1_scoped1.sem) (View.wordExact_bits rfl) (Memref.isWhole_whole _).wordExact ⟨Or.inl rfl, trivial⟩)
  Prog.lift (.waitDma2 cc1_scoped1.sem (dnBlk L t) dnS (View.wordExact_bits rfl) (Memref.isWhole_whole _).wordExact)

/-- The output rows copied out to block `t`, and waited for. -/
def writeOut (L : grid1.Coords) (t : Fin k1_t1_loop.trips) : Prog (Eff F L) PUnit := do
  Prog.lift (.enqueueDma otS (.here (outBlk L t)) (.dma cc1_scoped2.sem) (Memref.isWhole_whole _).wordExact (View.wordExact_bits rfl) ⟨Or.inl rfl, trivial⟩)
  Prog.lift (.waitDma2 cc1_scoped2.sem otS (outBlk L t) (Memref.isWhole_whole _).wordExact (View.wordExact_bits rfl))

/-! ## The loops' bodies at the launch's buffers -/

/-- One trip of the shifting loop: sixteen ids loaded (twice; the second load is not used), shifted, stored back. -/
def shiftTrip (L : grid1.Coords) : Fin k1_t2_loop.trips → Unit → Prog (Eff F L) Unit := fun t _ => do
  let v : Vec F S16 .i32 ← Prog.lift (.load ixS (Rect.unit (s := S3328) (k1_off3 t) S16.size (k1_off3_inb t)).toLoadRect (View.loadsAt_vmem h_S16))
  let _ : Vec F S16 .i32 ← Prog.lift (.load ixS (Rect.unit (s := S3328) (k1_off3 t) S16.size (k1_off3_inb t)).toLoadRect (View.loadsAt_vmem h_S16))
  Prog.lift (.store ixS (Rect.unit (s := S3328) (k1_off3 t) S16.size (k1_off3_inb t)) (k1_pay31 t v) Finset.univ (View.stores_vmem_bits_univ h_S16 rfl) (.inl rfl))
  pure ⟨⟩

/-- One trip of the summing loop, at the launch's buffers. -/
def sumTrip (L : grid1.Coords) : Fin k1_t3_loop.trips → Unit → Prog (Eff F L) Unit :=
  k1_t3_body L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2

/-- A trip of the outer loop, at the launch's buffers. -/
def blockTrip (L : grid1.Coords) : Fin k1_t1_loop.trips → Unit → Prog (Eff F L) Unit :=
  k1_t1_body L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    (Scalar.muli (Scalar.addi (Scalar.muli (BitVec.ofNat 32 (L 1).val) 2#32) (BitVec.ofNat 32 (L 0).val)) 512#32)

/-! ## The regrouping -/

section Parts
variable (L : grid1.Coords)

set_option maxRecDepth 65536 in
/-- The fetches, the shifting loop, and gathers 0 to 2. -/
theorem part4_eq (v : BitVec 32) (t : Fin k1_t1_loop.trips) :
    k1_part4 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2 v 0#32 1#32 t
    = (do fetch L t; Scf.Loop.for k1_t2_loop k1_t2_ok ⟨⟩ (shiftTrip L); issues L 3 0 (by decide)) := rfl

set_option maxRecDepth 65536 in
/-- Gathers 3 to 9. -/
theorem part5_eq : k1_part5 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = issues L 7 3 (by decide) := rfl

set_option maxRecDepth 65536 in
/-- Gathers 10 to 15. -/
theorem part6_eq : k1_part6 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = issues L 6 10 (by decide) := rfl

set_option maxRecDepth 65536 in
/-- Gathers 16 to 22. -/
theorem part7_eq : k1_part7 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = issues L 7 16 (by decide) := rfl

set_option maxRecDepth 65536 in
/-- Gathers 23 to 25, and waits 0 to 3. -/
theorem part8_eq : k1_part8 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = (do issues L 3 23 (by decide); waits L 4 0 (by decide)) := rfl

set_option maxRecDepth 65536 in
/-- Waits 4 to 9. -/
theorem part9_eq : k1_part9 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = waits L 6 4 (by decide) := rfl

set_option maxRecDepth 65536 in
/-- Waits 10 to 16. -/
theorem part10_eq : k1_part10 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = waits L 7 10 (by decide) := rfl

set_option maxRecDepth 65536 in
/-- Waits 17 to 23. -/
theorem part11_eq : k1_part11 (F := F) L idV (Memref.isWhole_whole _) dnV (Memref.isWhole_whole _) tbV (Memref.isWhole_whole _) outV (Memref.isWhole_whole _)
    ixS (Memref.isWhole_whole _) rwS (Memref.isWhole_whole _) dnS (Memref.isWhole_whole _) otS (Memref.isWhole_whole _)
    cc1_scratch4 cc1_scoped0 cc1_scoped1 cc1_scoped2
    = waits L 7 17 (by decide) := rfl

end Parts

set_option maxRecDepth 65536 in
/-- The trip, regrouped. -/
theorem blockTrip_eq (L : grid1.Coords) (t : Fin k1_t1_loop.trips) :
    blockTrip (F := F) L t ⟨⟩ = (do
      fetch L t
      Scf.Loop.for k1_t2_loop k1_t2_ok ⟨⟩ (shiftTrip L)
      issues L 26 0 (by decide)
      waits L 26 0 (by decide)
      Scf.Loop.for k1_t3_loop k1_t3_ok ⟨⟩ (sumTrip L)
      writeOut L t) := by
  unfold blockTrip k1_t1_body
  rw [part4_eq, part5_eq, part6_eq, part7_eq, part8_eq, part9_eq, part10_eq, part11_eq]
  simp only [bind_assoc]
  exact congrArg (fetch L t >>= ·) (funext fun _ => congrArg (Scf.Loop.for k1_t2_loop k1_t2_ok ⟨⟩ (shiftTrip L) >>= ·) (funext fun _ => rfl))

end Cert.Proof.Text
-- ==== Proof.Values.lean ====
/-
  What one tile computes, as functions of the arrays: the shifted row numbers of one block of 128 batch rows, the table rows
  they name, and one batch row's output.
-/
module

public import proofs.«01_k».proof.Proof.Gen.KernelIdeal.Skeleton
public import Idealize.ShloMosaic.Lib.ValueIdxCore
public import Idealize.ShloMosaic.Lib.Pipeline.Value

@[expose] public section

noncomputable section

namespace Cert.Proof.Values

open Cert.KernelIdeal Cert.KernelIdeal.Gen
open Idealize.ShloMosaic

variable {F : FTy → Type}

/-! ## The row numbers -/

/-- What the field of flat position `n` adds to a row number: field `n mod 26` owns the table rows from `(n mod 26) · 100000`. -/
def fieldBase (n : ℕ) : BitVec 32 := BitVec.ofNat 32 (n % 26 * 100000)

/-- A block's list of ids with its first `n` entries shifted to table row numbers. -/
def shifted (n : ℕ) (g : S3328.Idx → BitVec 32) : S3328.Idx → BitVec 32 :=
  fun p => if (p 0).val < n then g p + fieldBase (p 0).val else g p

/-- With no entry shifted the list is as it was. -/
theorem shifted_zero (g : S3328.Idx → BitVec 32) : shifted 0 g = g := funext fun p => if_neg (Nat.not_lt_zero _)

/-- With all shifted each entry names its row of the table. -/
theorem shifted_all (g : S3328.Idx → BitVec 32) (p : S3328.Idx) : shifted 3328 g p = g p + fieldBase (p 0).val := if_pos (p 0).isLt

/-- One lane's field base as the kernel computes it: the flat position `16 · t + l` modulo 26 (a signed remainder and the
    repair of its sign), times 100000. -/
def laneBase (t l : ℕ) : BitVec 32 :=
  let x := IntOp.addi (BitVec.ofNat 32 l) (Scalar.muli (Scf.iv 0#32 1#32 t) 16#32)
  let d := Scalar.select (Scalar.cmpi .eq 26#32 0#32) 1#32 26#32
  let r := IntOp.remsi .vector x d
  IntOp.muli (Scalar.select
    (IntOp.andi (IntOp.xori (IntOp.cmpi .slt r 0#32) (Scalar.cmpi .slt d 0#32)) (IntOp.cmpi .ne r 0#32)) (IntOp.addi r d) r) 100000#32

set_option maxRecDepth 20000 in
/-- It is the field base of that flat position: checked at each of the block's 3328 positions. -/
theorem laneBase_eq : ∀ (t : Fin 208) (l : Fin 16), laneBase t.val l.val = fieldBase (16 * t.val + l.val) := by decide +kernel

/-- What trip `t` of the shifting loop stores: its sixteen ids, each shifted by its field's base. -/
theorem pay31_apply (t : Fin k1_t2_loop.trips) (v : Vec F S16 .i32) (i : S16.Idx) :
    k1_pay31 (F := F) t v i = v i + fieldBase (16 * t.val + (i 0).val) := by
  unfold k1_pay31
  dsimp only
  rw [shapeCast_self, shapeCast_self]
  have h := laneBase_eq ⟨t.val, t.isLt⟩ ⟨(i 0).val, (i 0).isLt⟩
  have hi : iota .scVector S16 32 [0] iota_S16_d0_w32_scVector = fun j => BitVec.ofNat 32 (j 0).val :=
    funext fun j => iota_single_apply _ _ _ _ _ j
  rw [← h, hi]
  rfl

/-! ## The table rows -/

/-- The table row a row number names. (Every row number of an admissible run is below the table's height; the remainder makes
    the function total.) -/
def tblIdx (r : BitVec 32) (l : Fin 16) : S2600000x16.Idx := ValueIdx.ix2 ⟨r.toNat % 2600000, Nat.mod_lt _ (by decide)⟩ l

/-- The gathered rows of a block, from the table and the block's list of row numbers. -/
def gathered (E : Vec F S2600000x16 .f32) (ℓ : S3328.Idx → BitVec 32) : Vec F S3328x16 .f32 :=
  fun x => E (tblIdx (ℓ (ValueIdx.ix1 ⟨(x 0).val, (x 0).isLt⟩)) ⟨(x 1).val, (x 1).isLt⟩)

/-! ## One batch row -/

variable [FloatOps F]

/-- One output word from the dense word `d` and the 26 gathered words `e`, in the kernel's order of additions, and then the
    maximum with zero. -/
def rowVal (d : F .f32) (e : Fin 26 → F .f32) : F .f32 :=
  let add (x y : F .f32) : F .f32 := FloatOps.addf x y
  FloatOps.maximumf
    (add
      (add (add (add (add d (e 0)) (add (e 1) (e 2))) (add (add (e 3) (e 4)) (add (e 5) (e 6))))
        (add (add (add (e 7) (e 8)) (add (e 9) (e 10))) (add (add (e 11) (e 12)) (add (e 13) (e 14)))))
      (add (add (add (add (e 15) (e 16)) (add (e 17) (e 18))) (add (add (e 19) (e 20)) (add (e 21) (e 22))))
        (add (add (e 23) (e 24)) (e 25))))
    (Scalar.ofBits .f32 0x00000000#32)

/-- What a trip of the summing loop stores, from the dense row and the 26 gathered rows it loads. -/
def rowPay (d : Vec F S1x16 .f32) (e : Fin 26 → Vec F S1x16 .f32) : Vec F S1x16 .f32 :=
  k1_pay1 (k1_pay21 (e 25)) (k1_pay22 (k1_pay18 (e 15)) (k1_pay19 (e 16))) (k1_pay23 (k1_pay20 (e 17)) (e 18))
    (k1_pay24 (e 19) (e 20)) (k1_pay25 (e 21) (e 22)) (k1_pay26 (e 23) (e 24))
    (k1_pay27 (k1_pay2 d) (k1_pay3 (e 0)) (k1_pay4 (e 1)) (k1_pay5 (e 2)))
    (k1_pay28 (k1_pay6 (e 3)) (k1_pay7 (e 4)) (k1_pay8 (e 5)) (k1_pay9 (e 6)))
    (k1_pay29 (k1_pay10 (e 7)) (k1_pay11 (e 8)) (k1_pay12 (e 9)) (k1_pay13 (e 10)))
    (k1_pay30 (k1_pay14 (e 11)) (k1_pay15 (e 12)) (k1_pay16 (e 13)) (k1_pay17 (e 14)))

/-- Casting sixteen lanes to a row and back keeps each lane. -/
theorem castRow (i : S1x16.Idx) : (Shape.reshapeEquiv shapeCasts_S1x16_S16) ((Shape.reshapeEquiv shapeCasts_S16_S1x16) i) = i :=
  Shape.reshapeEquiv_eq_of_rowMajor _ (by simp [Shape.reshapeEquiv])

/-- Its lane `i` is the output word of lane `i` of the rows. -/
theorem rowPay_apply (d : Vec F S1x16 .f32) (e : Fin 26 → Vec F S1x16 .f32) (i : S1x16.Idx) :
    rowPay d e i = rowVal (d i) (fun k => e k i) := by
  conv_rhs => rw [← castRow i]
  rfl

end Cert.Proof.Values
-- ==== Proof.Rows.lean ====
/-
  The 3328 row transfers of one block's 26 indirect gathers, one by one: which row of the row buffer each writes, which entry
  of the list it reads, what it writes there; and the gathers and their waits run over them as one batch.
-/
module

public import proofs.«01_k».proof.Proof.GatherBatch
public import proofs.«01_k».proof.Proof.Text
public import proofs.«01_k».proof.Proof.Values
public import Idealize.ShloMosaic.Lib.Pipeline.ValueKit.Geometry
public import Idealize.ShloMosaic.Lib.VecWindow

@[expose] public section

noncomputable section

namespace Cert.Proof.Rows

open Cert.KernelIdeal Cert.KernelIdeal.Gen Cert.Proof.Setup Cert.Proof.Text Cert.Proof.Values Cert.Proof.GatherBatch
open Idealize.ShloMosaic
open Idealize.ShloMosaic.SparseCore (V rows)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

/-! ## Row `n` of the row buffer, entry `n` of the list -/

/-- The indices of row `n`. -/
def rowSet (n : Fin 3328) : Finset S3328x16.Idx := Finset.univ.filter fun x => (x 0).val = n.val

/-- The words of row `n`. -/
theorem mem_rowSet {n : Fin 3328} {x : S3328x16.Idx} : x ∈ rowSet n ↔ (x 0).val = n.val := by simp [rowSet]

/-- Two rows share no word. -/
theorem rowSet_disjoint {n n' : Fin 3328} (h : n ≠ n') : Disjoint (rowSet n) (rowSet n') := by
  rw [Finset.disjoint_left]; intro x hx hx'
  exact h (Fin.ext ((mem_rowSet.mp hx).symm.trans (mem_rowSet.mp hx')))

/-- The rows are all of the buffer. -/
theorem rowSet_cover : Finset.univ.biUnion rowSet = (Finset.univ : Finset S3328x16.Idx) := by
  ext x; simp only [Finset.mem_biUnion, Finset.mem_univ, true_and, iff_true]
  exact ⟨⟨(x 0).val, (x 0).isLt⟩, mem_rowSet.mpr rfl⟩

/-- The flat position of row `j` of gather `g`. -/
abbrev pos (g : Fin 26) (j : Fin 128) : Fin 3328 := ⟨128 * g.val + j.val, by omega⟩

/-- The gathers' shape fact at the axis it names. -/
abbrev hG := gathers_S2600000x16_S128x16
/-- The gathers go by rows. -/
theorem hG_axis' : hG.axis' = (0 : Fin 2) := rfl

/-- Where an index of row `j` of gather `g`'s destination lies in the row buffer: row `128 g + j`, the same column. -/
theorem dst_emb (g : Fin 26) (j : Fin 128) (i : (S128x16.rowShape hG.axis').Idx) :
    (((gDst g).view.slice (S128x16.rowRect hG.axis' j)).emb i 0).val = 128 * g.val + j.val
      ∧ (((gDst g).view.slice (S128x16.rowRect hG.axis' j)).emb i 1).val = (i (1 : Fin 2)).val := by
  have h0 : (i (0 : Fin 2)).val < 1 := (i (0 : Fin 2)).isLt
  constructor
  · show 128 * g.val + 1 * (j.val + 1 * (i (0 : Fin 2)).val) = _; omega
  · show 0 + 1 * (0 + 1 * (i (1 : Fin 2)).val) = _; omega

/-- Row `j` of gather `g`'s window is row `128 g + j` of the buffer. -/
theorem dst_set (g : Fin 26) (j : Fin 128) : ((gDst g).view.slice (S128x16.rowRect hG.axis' j)).set = rowSet (pos g j) := by
  ext x
  rw [mem_rowSet]
  constructor
  · intro hx
    obtain ⟨i, -, rfl⟩ := Finset.mem_map.mp hx
    exact (dst_emb g j i).1
  · intro hx
    have h1 : (x 1).val < 16 := (x 1).isLt
    let i : (S128x16.rowShape hG.axis').Idx := fun b => match b with | ⟨0, _⟩ => ⟨0, Nat.one_pos⟩ | ⟨1, _⟩ => ⟨(x 1).val, h1⟩
    refine Finset.mem_map.mpr ⟨i, Finset.mem_univ _, ?_⟩
    funext b
    refine Fin.ext ?_
    match b with
    | ⟨0, _⟩ => exact (dst_emb g j i).1.trans hx.symm
    | ⟨1, _⟩ => exact (dst_emb g j i).2

/-- Entry `j` of gather `g`'s list is entry `128 g + j` of the block's. -/
theorem offs_emb (g : Fin 26) (hn : S128.numel = 128) (j : Fin 128) : (gOffs g).view.emb (entryOf hn j) = ix1 (pos g j) := by
  refine funext fun b => match b with | ⟨0, _⟩ => Fin.ext ?_
  show 128 * g.val + 1 * (entryOf hn j 0).val = 128 * g.val + j.val
  have h := Shape.rowMajor_val_one (entryOf hn j)
  rw [Equiv.apply_symm_apply] at h
  have h' : (entryOf hn j 0).val = j.val := h.symm
  omega

/-- The gathers' source is all of the table, -/
theorem src_set : gSrc.view.set = Finset.univ := by
  rw [show gSrc.view.set = (Rect.unit (s := S2600000x16) ![0, 0] S2600000x16.size inb_S2600000x16_S2600000x16_0_0).set from View.set_slice_whole _ _]
  ext x
  simp only [Rect.mem_set_unit, Finset.mem_univ, iff_true]
  intro a
  fin_cases a
  · exact ⟨Nat.zero_le _, by have := (x 0).isLt; show (x 0).val < 0 + 2600000; exact (Nat.zero_add _).symm ▸ this⟩
  · exact ⟨Nat.zero_le _, by have := (x 1).isLt; show (x 1).val < 0 + 16; exact (Nat.zero_add _).symm ▸ this⟩

/-! ## What a row transfer writes -/

variable (d : Dev nD) (L : grid1.Coords)

/-- The list's words read through gather `g`'s slice. -/
theorem offs_read (g : Fin 26) (fo : S3328.Idx → BitVec 32) (x : S128.Idx) :
    (gOffs g).view.read (Elt F) fo x = fo ((gOffs g).view.emb x) := rfl

/-- and is read as it stands. -/
theorem src_read (E : Vec F S2600000x16 .f32) (x : S2600000x16.Idx) : gSrc.view.read (Elt F) E x = E x := by
  refine (show gSrc.view.read (Elt F) E x = E (gSrc.view.emb x) from rfl).trans (congrArg E ?_)
  funext b; refine Fin.ext ?_
  match b with
  | ⟨0, _⟩ => show 0 + 1 * (x (0 : Fin 2)).val = (x (0 : Fin 2)).val; omega
  | ⟨1, _⟩ => show 0 + 1 * (x (1 : Fin 2)).val = (x (1 : Fin 2)).val; omega

/-- On its row, row transfer `j` of gather `g` leaves the gathered rows. -/
theorem row_write (g : Fin 26) (j : Fin 128) (hn : S128.numel = 128) (E : Vec F S2600000x16 .f32) (fo : S3328.Idx → BitVec 32)
    (fr : Vec F S3328x16 .f32) (hin : ∀ x, ((gOffs g).view.read (Elt F) fo x).toNat < S2600000x16.size hG.axis) :
    ∀ x ∈ rowSet (pos g j), ((gDst g).view.slice (S128x16.rowRect hG.axis' j)).write (Elt F) fr
      (fun i => gSrc.view.read (Elt F) E (hG.rowIdx (rows ((gOffs g).view.read (Elt F) fo) hn hin j) i)) Finset.univ x = gathered E fo x := by
  intro x hx
  rw [← dst_set] at hx
  obtain ⟨i, -, rfl⟩ := Finset.mem_map.mp hx
  obtain ⟨e0, e1⟩ := dst_emb g j i
  refine (View.write_emb_of_mem _ _ (Finset.mem_univ i)).trans ?_
  refine (cast_eq _ _).trans ?_
  rw [src_read]
  unfold gathered tblIdx
  refine congrArg E ?_
  have hw : fo (ix1 (pos g j)) = (gOffs g).view.read (Elt F) fo (entryOf hn j) := by rw [offs_read, offs_emb]
  have hp : (ix1 ⟨(((gDst g).view.slice (S128x16.rowRect hG.axis' j)).emb i 0).val, (((gDst g).view.slice (S128x16.rowRect hG.axis' j)).emb i 0).isLt⟩ : S3328.Idx)
      = ix1 (pos g j) := congrArg ix1 (Fin.ext e0)
  rw [hp, hw]
  have hlt : ((gOffs g).view.read (Elt F) fo (entryOf hn j)).toNat < 2600000 := hin _
  funext b
  refine Fin.ext ?_
  match b with
  | ⟨0, _⟩ =>
    refine (congrArg Fin.val (hG.rowIdx_axis (rows ((gOffs g).view.read (Elt F) fo) hn hin j) i)).trans ?_
    exact (Nat.mod_eq_of_lt hlt).symm
  | ⟨1, _⟩ => exact (hG.rowIdx_of_ne _ i (1 : Fin 2) (by decide)).trans e1.symm

end Cert.Proof.Rows
-- ==== Proof.Gathers.lean ====
/-
  One block's 26 gathers and their 26 waits, run as one batch of 3328 row transfers on one semaphore: from the row buffer, the
  list and a share of the table, to the row buffer at the gathered rows.
-/
module

public import proofs.«01_k».proof.Proof.Rows
public import Idealize.ShloMosaic.Lib.Batch

@[expose] public section

noncomputable section

namespace Cert.Proof.Gathers

open Cert.KernelIdeal Cert.KernelIdeal.Gen Cert.Proof.Setup Cert.Proof.Text Cert.Proof.Values Cert.Proof.GatherBatch Cert.Proof.Rows
open Idealize.ShloMosaic
open Idealize.ShloMosaic.SparseCore (V rows)
open Idealize.ShloMosaic.SparseCore.Cfg (HIx)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

variable (d : Dev nD) (L : grid1.Coords)

/-- What row transfer `n` holds: its row of the row buffer at `fr`, its entry of the list at `fo`, a part of the share `q` of the
    table. -/
def rowIn (q : PosShare TreeShare) (E : Vec F S2600000x16 .f32) (fo : S3328.Idx → BitVec 32) (fr : Vec F S3328x16 .f32) (n : Fin 3328) : sProp 𝕄 :=
  iprop((((rwS).view.loc (thr d L) ↦[rowSet n]{fullShare} fr) ∗ ((ixS).view.loc (thr d L) ↦[{(ix1 n : S3328.Idx)}]{fullShare} fo))
    ∗ ((tbV).view.loc (thr d L) ↦{pieceOf q 3328 (by decide) n} E))

/-- The list's entries, one by one, are the whole list. -/
theorem entries_cover : Finset.univ.biUnion (fun n : Fin 3328 => {(ix1 n : S3328.Idx)}) = (Finset.univ : Finset S3328.Idx) := by
  ext x; simp only [Finset.mem_biUnion, Finset.mem_univ, _root_.true_and, Finset.mem_singleton, iff_true]
  exact ⟨x 0, ValueIdx.eq_ix1 x⟩

/-- The row buffer, the list and the share of the table, as the 3328 transfers' parts. -/
theorem rows_split (q : PosShare TreeShare) (E : Vec F S2600000x16 .f32) (fo : S3328.Idx → BitVec 32) (fr : Vec F S3328x16 .f32) :
    (bigSep Finset.univ (rowIn d L q E fo fr) : sProp 𝕄)
      = iprop((((rwS).view.loc (thr d L) ↦{fullShare} fr) ∗ ((ixS).view.loc (thr d L) ↦{fullShare} fo)) ∗ ((tbV).view.loc (thr d L) ↦{q} E)) := by
  unfold rowIn
  rw [bigSep_sep', bigSep_sep', ← pointsTo_piecesOf (ℓ := (tbV).view.loc (thr d L)) Finset.univ E (by decide : 0 < 3328) q,
    ← pointsTo_biUnion Finset.univ (ℓ := (rwS).view.loc (thr d L)) rowSet (fun n _ n' _ h => rowSet_disjoint h),
    ← pointsTo_biUnion Finset.univ (ℓ := (ixS).view.loc (thr d L)) (fun n : Fin 3328 => {(ix1 n : S3328.Idx)})
      (fun n _ n' _ h => Finset.disjoint_singleton.mpr fun e => h (congrFun e 0)),
    rowSet_cover, entries_cover]

/-- One row's credit on the semaphore. -/
theorem rowCredit (g : Fin 26) (j : Fin 128) :
    ((gDst g).slice (S128x16.rowRect hG.axis' j) (S128x16.stride_rowRect hG.axis' j)).view.dmaCredit = 512 := by rfl

/-- The batch of the 3328 row transfers: each brings its row gathered. -/
abbrev B (q : PosShare TreeShare) (E : Vec F S2600000x16 .f32) (fo : S3328.Idx → BitVec 32) (j u : ℕ) : sProp 𝕄 :=
  Batch countersEmb (thr d L) (.dma cc1_scratch4.sem) (default : HIx 1) 512 (rowIn d L q E fo (gathered E fo)) j u

/-- Entry `j` of gather `g` is row transfer `128 * g + j`. -/
theorem rowIn_pos (q : PosShare TreeShare) (E : Vec F S2600000x16 .f32) (fo : S3328.Idx → BitVec 32) (fr : Vec F S3328x16 .f32)
    (g : Fin 26) (hn : S128.numel = S128x16.size hG.axis') (j : Fin 128) :
    rowIn d L q E fo fr (pos g j)
      = rowHeld (thr d L) gSrc (gDst g) hG (gOffs g) hn (pieceOf q 3328 (by decide) (pos g j)) fullShare E fo j fr := by
  unfold rowIn rowHeld
  refine congrArg₂ _ (congrArg₂ _ ?_ ?_) ?_
  · exact congrArg (fun S => ((rwS).view.loc (thr d L) ↦[S]{fullShare} fr : sProp 𝕄)) (dst_set g j).symm
  · exact congrArg (fun i => ((ixS).view.loc (thr d L) ↦[{i}]{fullShare} fo : sProp 𝕄)) (offs_emb g hn j).symm
  · exact congrArg (fun S => ((tbV).view.loc (thr d L) ↦[S]{pieceOf q 3328 (by decide) (pos g j)} E : sProp 𝕄)) src_set.symm

/-- The row a gather's transfer writes is its row gathered. -/
theorem rowIn_write (q : PosShare TreeShare) (E : Vec F S2600000x16 .f32) (fo : S3328.Idx → BitVec 32) (fr f' : Vec F S3328x16 .f32)
    (n : Fin 3328) (h : ∀ x ∈ rowSet n, f' x = fr x) : rowIn d L q E fo f' n = rowIn d L q E fo fr n := by
  unfold rowIn
  rw [pointsTo_congr h]

variable [FloatOps F]

set_option maxHeartbeats 1000000 in
/-- Gathers `k, …, k + o - 1` issued: the rows before them issued already, those after them still held. -/
theorem wp_issues (q : PosShare TreeShare) (E : Vec F S2600000x16 .f32) (fo : S3328.Idx → BitVec 32) (fr : Vec F S3328x16 .f32)
    (hlt : ∀ p, (fo p).toNat < 2600000) : ∀ (o k : ℕ) (h : k + o ≤ 26),
    iprop(bigSep (pending (128 * k)) (rowIn d L q E fo fr) ∗ B d L q E fo (128 * k) 0)
      ⊢ wp frame (wpE (defs₀ (F := F)) 𝒱₀ (thr d L) none) Set.univ (issues L o k h)
          fun _ => iprop(bigSep (pending (128 * (k + o))) (rowIn d L q E fo fr) ∗ B d L q E fo (128 * (k + o)) 0)
  | 0, k, _ => by
    unfold issues
    rw [wp_pure]
    exact fupd_intro
  | o + 1, k, h => by
    have hg : k < 26 := by omega
    have hk : 128 * k + S128x16.size hG.axis' ≤ 3328 := by show 128 * k + 128 ≤ 3328; omega
    have hin : ∀ x, ((gOffs ⟨k, hg⟩).view.read (Elt F) fo x).toNat < S2600000x16.size hG.axis := fun x => hlt _
    have hrow : ∀ j : Fin 128, nextRow (128 * k) hk j = pos ⟨k, hg⟩ j := fun j => Fin.ext rfl
    unfold issues
    iintro ⟨HR, HB⟩
    iapply (wp_gatherBatch countersEmb 𝒱₀ (thr d L) none (hg := hG) (default : HIx 1) 512 (128 * k) 0 hk (Nat.zero_le _)
      (fun j => rowCredit ⟨k, hg⟩ j) hin (fun j => pieceOf q 3328 (by decide) (nextRow (128 * k) hk j)) (fs := E) (fd := fr) (fo := fo)
      (qo := fullShare) (R := rowIn d L q E fo fr) (D := rowIn d L q E fo (gathered E fo))
      (fun j => Entails.of_eq (by rw [show nextRow (128 * k) hk j = pos ⟨k, hg⟩ j from hrow j]; exact rowIn_pos d L q E fo fr ⟨k, hg⟩ _ j))
      (fun j => Entails.of_eq (by
        rw [show nextRow (128 * k) hk j = pos ⟨k, hg⟩ j from hrow j, ← rowIn_write d L q E fo (gathered E fo) _ _ (row_write ⟨k, hg⟩ j _ E fo fr hin)]
        exact (rowIn_pos d L q E fo _ ⟨k, hg⟩ _ j).symm)))  $$ [HR HB]
    · isplitl [HR] <;> iassumption
    have e : 128 * k + S128x16.size hG.axis' = 128 * (k + 1) := by show 128 * k + 128 = _; omega
    have e' : k + (o + 1) = k + 1 + o := by omega
    rw [e, e']
    iintro HH
    have h' : k + 1 + o ≤ 26 := by omega
    iapply (wp_issues q E fo fr hlt o (k + 1) h')
    iexact HH

/-- The waits recorded by the tile: those before its task, and its own, each at the index of a transfer that is waited for by the
    tile that started it. -/
def OwesMore (O : CellTallies nD τ sig (HIx 1)) (W : Waits sig (HIx 1)) : sProp 𝕄 :=
  iprop(∃ W', ⌜∀ p ∈ W', p ∈ W ∨ p.2 = none⌝ ∗ owes (thr d L) O W')

/-- One gather's words on the semaphore, of its 128 rows of 512. -/
theorem gatherCredit (g : Fin 26) : (gDst g).view.dmaCredit = 128 * 512 := by rfl

/-- The first of `o + 1` waits, and the rest. -/
theorem waits_succ (o k : ℕ) (h : k + (o + 1) ≤ 26) :
    waits (F := F) L (o + 1) k h
      = .op (.waitDma2 cc1_scratch4.sem gSrc (gDst ⟨k, by omega⟩) (View.wordExact_bits rfl) (View.wordExact_bits rfl)) fun _ => waits L o (k + 1) (by omega) := rfl

set_option maxHeartbeats 1000000 in
/-- Waits `k, …, k + o - 1`: each consumes one gather's 128 rows of the batch. -/
theorem wp_waits (q : PosShare TreeShare) (E : Vec F S2600000x16 .f32) (fo : S3328.Idx → BitVec 32)
    (O : CellTallies nD τ sig (HIx 1)) (W : Waits sig (HIx 1)) : ∀ (o k : ℕ) (h : k + o ≤ 26),
    iprop(B d L q E fo 3328 (65536 * k) ∗ OwesMore (F := F) d L O W ∗ Transfers.MayWaits (thr d L) (default : HIx 1) O)
      ⊢ wp frame (wpE (defs₀ (F := F)) 𝒱₀ (thr d L) none) Set.univ (waits L o k h)
          fun _ => iprop(B d L q E fo 3328 (65536 * (k + o)) ∗ OwesMore (F := F) d L O W)
  | 0, k, _ => by
    unfold waits
    rw [wp_pure]
    iintro ⟨HB, HO, -⟩
    imodintro
    isplitl [HB] <;> iassumption
  | o + 1, k, h => by
    have hu : 65536 * k + 128 * 512 ≤ 512 * 3328 := by omega
    rw [waits_succ]
    unfold OwesMore
    iintro ⟨HB, ⟨%W', %hW', HO⟩, #Hmw⟩
    ihave Hw := (Transfers.MayWaits.elim (SemLoc.dma cc1_scratch4.sem)) $$ Hmw
    have hk : k < 26 := by omega
    iapply (Transfers.wp_waitBatchMulO countersEmb 𝒱₀ (thr d L) none (default : HIx 1) (N := 512) 128 (gatherCredit ⟨k, hk⟩) hu) $$ [HB HO Hw]
    · isplitl [HB]; · iexact HB
      isplitl [HO] <;> iassumption
    iintro ⟨HB, HO⟩
    have e : 65536 * k + 128 * 512 = 65536 * (k + 1) := by omega
    have e' : k + (o + 1) = k + 1 + o := by omega
    rw [e, e']
    have h' : k + 1 + o ≤ 26 := by omega
    iapply (wp_waits q E fo O W o (k + 1) h')
    isplitl [HB]; · iexact HB
    isplitl [HO]
    · unfold OwesMore
      iexists _
      isplitr [HO]; swap; · iexact HO
      ipureintro
      intro p hp
      rcases Finset.mem_insert.mp hp with hp | hp
      · exact .inr (by rw [hp]; rfl)
      · exact hW' p hp
    · iexact Hmw

/-- THE GATHERS OF ONE BLOCK: from the list's row numbers (all rows of the table), a share of the table and the row buffer, to the
    row buffer holding at each of its 3328 rows the table's row of that number. -/
theorem wp_gathers (q : PosShare TreeShare) (E : Vec F S2600000x16 .f32) (fo : S3328.Idx → BitVec 32) (fr : Vec F S3328x16 .f32)
    (hlt : ∀ p, (fo p).toNat < 2600000) (O : CellTallies nD τ sig (HIx 1)) (W : Waits sig (HIx 1)) :
    iprop((((rwS).view.loc (thr d L) ↦{fullShare} fr) ∗ ((ixS).view.loc (thr d L) ↦{fullShare} fo)) ∗ ((tbV).view.loc (thr d L) ↦{q} E)
        ∗ semVal (thr d L, SemLoc.dma cc1_scratch4.sem) 0 ∗ OwesMore (F := F) d L O W ∗ Transfers.MayWaits (thr d L) (default : HIx 1) O)
      ⊢ wp frame (wpE (defs₀ (F := F)) 𝒱₀ (thr d L) none) Set.univ (issues L 26 0 (by decide) >>= fun _ => waits L 26 0 (by decide))
          fun _ => iprop((((rwS).view.loc (thr d L) ↦{fullShare} gathered E fo) ∗ ((ixS).view.loc (thr d L) ↦{fullShare} fo)) ∗ ((tbV).view.loc (thr d L) ↦{q} E)
            ∗ semVal (thr d L, SemLoc.dma cc1_scratch4.sem) 0 ∗ OwesMore (F := F) d L O W) := by
  haveI : ∀ n, Storable (upEmb : UEmb _ 𝕄) (rowIn d L q E fo (gathered E fo) n) := fun n => by unfold rowIn; infer_instance
  iintro ⟨Hbufs, Htb, Hsem, HO, #Hmw⟩
  ihave HR := (Entails.of_eq (rows_split d L q E fo fr).symm) $$ [Hbufs Htb]
  · isplitl [Hbufs] <;> iassumption
  iapply fupd_wp
  imod (Transfers.batch_alloc' countersEmb (thr d L) (sm := SemLoc.dma cc1_scratch4.sem) (default : HIx 1) 512 (rowIn d L q E fo (gathered E fo))) $$ Hsem with HB
  imodintro
  rw [wp_bind]
  iapply wp_wand $$ [HR HB]
  · have h0 : 0 + 26 ≤ 26 := by decide
    iapply (wp_issues d L q E fo fr hlt 26 0 h0)
    isplitl [HR]
    · rw [show 128 * 0 = 0 from rfl, Transfers.pending_zero]; iexact HR
    · iexact HB
  iintro %_ ⟨-, HB⟩
  iapply (wp_fupd _ _ _ _ _)
  iapply wp_wand $$ [HB HO]
  · have h0 : 0 + 26 ≤ 26 := by decide
    iapply (wp_waits d L q E fo O W 26 0 h0)
    isplitl [HB]; · iexact HB
    isplitl [HO]; · iexact HO
    iexact Hmw
  iintro %_ ⟨HB, HO⟩
  imod (Transfers.batch_collect' countersEmb (thr d L) (by decide)) $$ HB with ⟨HR, Hsem⟩
  ihave HR' := (Entails.of_eq (rows_split d L q E fo (gathered E fo))) $$ HR
  icases HR' with ⟨Hbufs, Htb⟩
  imodintro
  isplitl [Hbufs]; · iexact Hbufs
  isplitl [Htb]; · iexact Htb
  isplitl [Hsem] <;> iassumption

end Cert.Proof.Gathers
-- ==== Proof.Shift.lean ====
/-
  The shifting loop: a block's list of ids becomes its list of table row numbers, sixteen entries a trip.
-/
module

public import proofs.«01_k».proof.Proof.Text
public import proofs.«01_k».proof.Proof.Values
public import Idealize.ShloMosaic.Lib.Pipeline.ValueKit.Geometry
public import Idealize.ShloMosaic.Lib.VecWindow

@[expose] public section

noncomputable section

namespace Cert.Proof.Shift

open Cert.KernelIdeal Cert.KernelIdeal.Gen Cert.Proof.Setup Cert.Proof.Text Cert.Proof.Values
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid1.Coords)

/-- Trip `t`'s sixteen entries of the list. -/
abbrev lanes (t : Fin k1_t2_loop.trips) : Rect S3328 := Rect.unit (s := S3328) (k1_off3 t) S16.size (k1_off3_inb t)

/-- Entry `i` of them is entry `16 t + i` of the list. -/
theorem lanes_emb (t : Fin k1_t2_loop.trips) (i : S16.Idx) : ((lanes t).emb i 0).val = 16 * t.val + (i 0).val := by
  rw [ValueKit.rect_emb_unit_val]
  exact congrArg (· + (i 0).val) (congrFun (k1_off3_eq t) 0)

/-- One trip, on the list shifted at its first `16 t` entries, leaves it shifted at sixteen more. -/
theorem shift_store [FloatOps F] (t : Fin k1_t2_loop.trips) (g : S3328.Idx → BitVec 32) :
    ixS.view.writes (Elt F) (shifted (16 * t.val) g)
        [⟨lanes t, k1_pay31 (F := F) t (ixS.view.readAt (Elt F) (lanes t).toLoadRect (shifted (16 * t.val) g))⟩]
      = shifted (16 * (t.val + 1)) g := by
  rw [View.writes_singleton]
  funext y
  by_cases hy : 16 * t.val ≤ (y 0).val ∧ (y 0).val < 16 * t.val + 16
  · let i : S16.Idx := ValueIdx.ix1 ⟨(y 0).val - 16 * t.val, by omega⟩
    have hi : (i 0).val = (y 0).val - 16 * t.val := rfl
    have he : (lanes t).emb i = y := by
      rw [ValueIdx.eq_ix1 y, ValueIdx.eq_ix1 ((lanes t).emb i)]
      exact congrArg _ (Fin.ext (by rw [lanes_emb, hi]; omega))
    have hr : ixS.view.readAt (Elt F) (lanes t).toLoadRect (shifted (16 * t.val) g) i = g y := by
      show shifted (16 * t.val) g ((lanes t).emb i) = _
      rw [he]
      exact if_neg (by omega)
    have hw := View.write_emb_of_mem (v := ixS.view.slice (lanes t)) (Val := Elt F) (shifted (16 * t.val) g)
      (k1_pay31 (F := F) t (ixS.view.readAt (Elt F) (lanes t).toLoadRect (shifted (16 * t.val) g))) (Finset.mem_univ i)
    rw [pay31_apply, hr, show (ixS.view.slice (lanes t)).emb i = y from he, hi] at hw
    rw [hw, show 16 * t.val + ((y 0).val - 16 * t.val) = (y 0).val by omega]
    exact (if_pos (by omega)).symm
  · have hn : y ∉ (ixS.view.slice (lanes t)).setOn Finset.univ := by
      rw [View.setOn_univ]
      intro h
      obtain ⟨i, -, rfl⟩ := Finset.mem_map.mp h
      have := lanes_emb t i
      have hlt : (i 0).val < 16 := (i 0).isLt
      exact hy ⟨by show _ ≤ ((lanes t).emb i 0).val; omega, by show ((lanes t).emb i 0).val < _; omega⟩
    rw [View.write_of_not_mem _ _ _ hn]
    unfold shifted
    by_cases h : (y 0).val < 16 * t.val
    · rw [if_pos h, if_pos (by omega)]
    · rw [if_neg h, if_neg (by omega)]

/-- Before trip `n`: the first `16 n` entries are shifted. -/
def inv (g : S3328.Idx → BitVec 32) (n : ℕ) (_ : PUnit) : sProp 𝕄 :=
  iprop((ixS).view.loc (thr d L) ↦{fullShare} shifted (16 * n) g)

variable [FloatOps F]

/-- THE SHIFTING LOOP: every id of the block's list becomes its table row number. -/
theorem wp_shift (g : S3328.Idx → BitVec 32) :
    ((ixS).view.loc (thr d L) ↦{fullShare} g : sProp 𝕄)
      ⊢ wp frame (wpE (defs₀ (F := F)) 𝒱₀ (thr d L) none) Set.univ (Scf.Loop.for k1_t2_loop k1_t2_ok ⟨⟩ (shiftTrip L))
          fun _ => ((ixS).view.loc (thr d L) ↦{fullShare} shifted 3328 g : sProp 𝕄) := by
  refine BIBase.Entails.trans ?_ (Scf.wp_for _ _ _ k1_t2_loop.lb k1_t2_loop.ub k1_t2_loop.st k1_t2_ok ⟨⟩ (shiftTrip L) (inv (F := F) d L g) ?_)
  · unfold inv
    rw [Nat.mul_zero, shifted_zero]
    iintro H
    isplitl [H]; · iexact H
    iintro %_ H
    iexact H
  · intro k _
    unfold inv shiftTrip
    iintro H
    sl_exec
    sl_step
    rw [← shift_store k g]
    iexact H

end Cert.Proof.Shift
-- ==== Proof.Sum.lean ====
/-
  The summing loop: each of a block's 128 output rows from its dense row and its 26 gathered rows, a row a trip.
-/
module

public import proofs.«01_k».proof.Proof.Text
public import proofs.«01_k».proof.Proof.Values
public import Idealize.ShloMosaic.Lib.Pipeline.ValueKit.Geometry
public import Idealize.ShloMosaic.Lib.VecWindow

@[expose] public section

noncomputable section

namespace Cert.Proof.Sum

open Cert.KernelIdeal Cert.KernelIdeal.Gen Cert.Proof.Setup Cert.Proof.Text Cert.Proof.Values
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## What the loop leaves -/

variable [FloatOps F]

/-- A block's output rows, from its gathered rows `R` and its dense rows `Dn`: row `r` sums `Dn`'s row `r` and the 26 rows of `R`
    from `26 r`. -/
def blockOut (R : Vec F S3328x16 .f32) (Dn : Vec F S128x16 .f32) : Vec F S128x16 .f32 :=
  fun x => rowVal (Dn x) fun k => R (ValueIdx.ix2 ⟨26 * (x 0).val + k.val, by
    have h : (x 0).val < 128 := (x 0).isLt
    have := k.isLt; omega⟩ ⟨(x 1).val, (x 1).isLt⟩)

/-- The output buffer with its first `n` rows done. -/
def summed (n : ℕ) (R : Vec F S3328x16 .f32) (Dn f : Vec F S128x16 .f32) : Vec F S128x16 .f32 :=
  fun x => if (x 0).val < n then blockOut R Dn x else f x

/-- Trip `t`'s row of the output and of the dense rows. -/
abbrev oneRow (t : Fin k1_t3_loop.trips) : Rect S128x16 := Rect.unit (s := S128x16) (k1_off4 t) S1x16.size (k1_off4_inb t)

/-- Row `r` of trip `t`'s 26 rows of the row buffer. -/
abbrev gRow (t : Fin k1_t3_loop.trips) (r : Fin 26) : Rect S3328x16 :=
  Rect.unit (s := S3328x16) (k1_off5 t (BitVec.ofNat 32 r.val)) S1x16.size (k1_off5_inb t r)

/-- Word `i` of trip `t`'s row of the dense or the output rows. -/
theorem oneRow_emb (t : Fin k1_t3_loop.trips) (i : S1x16.Idx) :
    ((oneRow t).emb i 0).val = t.val ∧ ((oneRow t).emb i 1).val = (i 1).val := by
  have h0 : (i 0).val = 0 := by have : (i 0).val < 1 := (i 0).isLt; omega
  constructor
  · rw [ValueKit.rect_emb_unit_val, h0, Nat.add_zero]; exact congrFun (k1_off4_eq t) 0
  · rw [ValueKit.rect_emb_unit_val]
    exact (congrArg (· + (i 1).val) (congrFun (k1_off4_eq t) 1)).trans (Nat.zero_add _)

/-- Word `i` of the gathered row of field `r`, at trip `t`. -/
theorem gRow_emb (t : Fin k1_t3_loop.trips) (r : Fin 26) (i : S1x16.Idx) :
    ((gRow t r).emb i 0).val = 26 * t.val + r.val ∧ ((gRow t r).emb i 1).val = (i 1).val := by
  have h0 : (i 0).val = 0 := by have : (i 0).val < 1 := (i 0).isLt; omega
  constructor
  · rw [ValueKit.rect_emb_unit_val, h0, Nat.add_zero]; exact congrFun (k1_off5_eq t r) 0
  · rw [ValueKit.rect_emb_unit_val]
    exact (congrArg (· + (i 1).val) (congrFun (k1_off5_eq t r) 1)).trans (Nat.zero_add _)

/-- One trip, on the buffer with its first `t` rows done, leaves one more done. -/
theorem sum_store (t : Fin k1_t3_loop.trips) (R : Vec F S3328x16 .f32) (Dn f : Vec F S128x16 .f32) :
    otS.view.writes (Elt F) (summed t.val R Dn f)
        [⟨oneRow t, rowPay (dnS.view.readAt (Elt F) (oneRow t).toLoadRect Dn) fun r => rwS.view.readAt (Elt F) (gRow t r).toLoadRect R⟩]
      = summed (t.val + 1) R Dn f := by
  rw [View.writes_singleton]
  funext y
  by_cases hy : (y 0).val = t.val
  · let i : S1x16.Idx := ValueIdx.ix2 0 ⟨(y 1).val, (y 1).isLt⟩
    have hi : (i 1).val = (y 1).val := rfl
    have he : (oneRow t).emb i = y := by
      rw [ValueIdx.eq_ix2 y, ValueIdx.eq_ix2 ((oneRow t).emb i)]
      exact congrArg₂ _ (Fin.ext ((oneRow_emb t i).1.trans hy.symm)) (Fin.ext (oneRow_emb t i).2)
    have hw := View.write_emb_of_mem (v := otS.view.slice (oneRow t)) (Val := Elt F) (summed t.val R Dn f)
      (rowPay (dnS.view.readAt (Elt F) (oneRow t).toLoadRect Dn) fun r => rwS.view.readAt (Elt F) (gRow t r).toLoadRect R) (Finset.mem_univ i)
    rw [rowPay_apply, show (otS.view.slice (oneRow t)).emb i = y from he] at hw
    rw [hw]
    refine Eq.trans ?_ (if_pos (by omega)).symm
    unfold blockOut
    refine Eq.trans (show _ = rowVal (F := F) (Dn ((oneRow t).emb i)) (fun r => R ((gRow t r).emb i)) from rfl) ?_
    refine congrArg₂ (rowVal (F := F)) ?_ (funext fun r => ?_)
    · rw [he]
    · rw [ValueIdx.eq_ix2 ((gRow t r).emb i)]
      exact congrArg R (congrArg₂ _ (Fin.ext ((gRow_emb t r i).1.trans (by show _ = 26 * (y 0).val + r.val; omega))) (Fin.ext (gRow_emb t r i).2))
  · have hn : y ∉ (otS.view.slice (oneRow t)).setOn Finset.univ := by
      rw [View.setOn_univ]
      intro h
      obtain ⟨i, -, rfl⟩ := Finset.mem_map.mp h
      exact hy (oneRow_emb t i).1
    rw [View.write_of_not_mem _ _ _ hn]
    unfold summed
    by_cases h : (y 0).val < t.val
    · rw [if_pos h, if_pos (by omega)]
    · rw [if_neg h, if_neg (by omega)]

variable (d : Dev nD) (L : grid1.Coords)

/-- Before trip `n`: the gathered rows, the dense rows, the first `n` output rows done. -/
def inv (R : Vec F S3328x16 .f32) (Dn f : Vec F S128x16 .f32) (n : ℕ) (_ : PUnit) : sProp 𝕄 :=
  iprop(((rwS).view.loc (thr d L) ↦{fullShare} R) ∗ ((dnS).view.loc (thr d L) ↦{fullShare} Dn)
    ∗ ((otS).view.loc (thr d L) ↦{fullShare} summed n R Dn f))

set_option maxHeartbeats 4000000 in
/-- THE SUMMING LOOP: the output buffer holds the block's output rows. -/
theorem wp_sum (R : Vec F S3328x16 .f32) (Dn f : Vec F S128x16 .f32) :
    iprop(((rwS).view.loc (thr d L) ↦{fullShare} R) ∗ ((dnS).view.loc (thr d L) ↦{fullShare} Dn) ∗ ((otS).view.loc (thr d L) ↦{fullShare} f))
      ⊢ wp frame (wpE (defs₀ (F := F)) 𝒱₀ (thr d L) none) Set.univ (Scf.Loop.for k1_t3_loop k1_t3_ok ⟨⟩ (sumTrip L))
          fun _ => (iprop(((rwS).view.loc (thr d L) ↦{fullShare} R) ∗ ((dnS).view.loc (thr d L) ↦{fullShare} Dn)
            ∗ ((otS).view.loc (thr d L) ↦{fullShare} blockOut R Dn)) : sProp 𝕄) := by
  refine BIBase.Entails.trans ?_ (Scf.wp_for _ _ _ k1_t3_loop.lb k1_t3_loop.ub k1_t3_loop.st k1_t3_ok ⟨⟩ (sumTrip L) (inv (F := F) d L R Dn f) ?_)
  · unfold inv
    iintro ⟨HR, HD, HO⟩
    isplitl [HR HD HO]
    · isplitl [HR]; · iexact HR
      isplitl [HD]; · iexact HD
      rw [show summed 0 R Dn f = f from funext fun x => if_neg (Nat.not_lt_zero _)]
      iexact HO
    iintro %_ ⟨HR, HD, HO⟩
    isplitl [HR]; · iexact HR
    isplitl [HD]; · iexact HD
    rw [show summed (Scf.trips k1_t3_loop.lb k1_t3_loop.ub k1_t3_loop.st) R Dn f = blockOut R Dn from funext fun x => if_pos (x 0).isLt]
    iexact HO
  · intro k _
    unfold sumTrip k1_t3_body
    simp only [k1_part1_eq_skeleton, k1_part2_eq_skeleton, k1_part3_eq_skeleton]
    unfold k1_part1_skel k1_part2_skel k1_part3_skel inv
    iintro ⟨HR, HD, HO⟩
    sl_exec
    sl_step
    isplitl [HR]; · iexact HR
    isplitl [HD]; · iexact HD
    rw [← sum_store k R Dn f]
    iexact HO

end Cert.Proof.Sum
-- ==== Proof.Block.lean ====
/-
  One trip of a tile's loop: the block's ids and dense rows fetched, the ids shifted, the table rows gathered, the output rows
  summed and written out.
-/
module

public import proofs.«01_k».proof.Proof.Gathers
public import proofs.«01_k».proof.Proof.Shift
public import proofs.«01_k».proof.Proof.Sum

@[expose] public section

noncomputable section

namespace Cert.Proof.Block

open Cert.KernelIdeal Cert.KernelIdeal.Gen Cert.Proof.Setup Cert.Proof.Text Cert.Proof.Values Cert.Proof.Gathers Cert.Proof.Sum
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

/-! ## The blocks -/

/-- The number of tile `L`'s block `t`: block `n` is the batch rows from `128 n`. -/
def blkNo (L : grid1.Coords) (t : Fin k1_t1_loop.trips) : ℕ := 8 * (L 1).val + 4 * (L 0).val + t.val

/-- A tile's block number is one of 128. -/
theorem blkNo_lt (L : grid1.Coords) (t : Fin k1_t1_loop.trips) : blkNo L t < 128 := by
  have h0 : (L 0).val < 2 := (L 0).isLt
  have h1 : (L 1).val < 16 := (L 1).isLt
  have ht : t.val < 4 := t.isLt
  unfold blkNo; omega

/-- A block's ids in the flat array of ids. -/
def idsOf (L : grid1.Coords) (t : Fin k1_t1_loop.trips) (A : S425984.Idx → BitVec 32) : S3328.Idx → BitVec 32 :=
  fun p => A (ix1 ⟨3328 * blkNo L t + (p 0).val, by have := blkNo_lt L t; have h : (p 0).val < 3328 := (p 0).isLt; omega⟩)

/-- A block's rows of an array of batch rows. -/
def rowsOf (L : grid1.Coords) (t : Fin k1_t1_loop.trips) (A : Vec F S16384x16 .f32) : Vec F S128x16 .f32 :=
  fun p => A (ix2 ⟨128 * blkNo L t + (p 0).val, by have := blkNo_lt L t; have h : (p 0).val < 128 := (p 0).isLt; omega⟩ ⟨(p 1).val, (p 1).isLt⟩)

/-- Position `p` of block `t`'s slice of the ids: 3328 ids for each block before it, and `p`. -/
theorem idBlk_emb (L : grid1.Coords) (t : Fin k1_t1_loop.trips) (p : S3328.Idx) :
    ((idBlk L t).view.emb p 0).val = 3328 * blkNo L t + (p 0).val := by
  refine (ValueKit.rect_emb_unit_val (s := S425984) (k1_off1 L t) S3328.size (k1_off1_inb L t) p 0).trans ?_
  rw [show k1_off1 L t 0 = _ from congrFun (k1_off1_eq L t) 0]
  show 26624 * (L 1).val + 13312 * (L 0).val + 3328 * t.val + (p 0).val = _
  unfold blkNo; omega

/-- The rows of a block, in either array of batch rows. -/
theorem rowBlk_emb (L : grid1.Coords) (t : Fin k1_t1_loop.trips) (p : S128x16.Idx) :
    ((Rect.unit (s := S16384x16) (k1_off2 L t) S128x16.size (k1_off2_inb L t)).emb p 0).val = 128 * blkNo L t + (p 0).val
      ∧ ((Rect.unit (s := S16384x16) (k1_off2 L t) S128x16.size (k1_off2_inb L t)).emb p 1).val = (p 1).val := by
  constructor
  · rw [ValueKit.rect_emb_unit_val, show k1_off2 L t 0 = _ from congrFun (k1_off2_eq L t) 0]
    show 1024 * (L 1).val + 512 * (L 0).val + 128 * t.val + (p 0).val = _
    unfold blkNo; omega
  · rw [ValueKit.rect_emb_unit_val, show k1_off2 L t 1 = _ from congrFun (k1_off2_eq L t) 1]
    exact Nat.zero_add _

/-- The ids read through the slice are the block's ids. -/
theorem idBlk_read (L : grid1.Coords) (t : Fin k1_t1_loop.trips) (A : S425984.Idx → BitVec 32) :
    (idBlk L t).view.read (Elt F) A = idsOf L t A := by
  funext p
  refine (show _ = A ((idBlk L t).view.emb p) from rfl).trans (congrArg A ?_)
  rw [ValueIdx.eq_ix1 ((idBlk L t).view.emb p)]
  exact congrArg _ (Fin.ext (idBlk_emb L t p))

/-- The window of 128 rows lies at the block's rows. -/
theorem rowBlk_eq (L : grid1.Coords) (t : Fin k1_t1_loop.trips) (p : S128x16.Idx) :
    (Rect.unit (s := S16384x16) (k1_off2 L t) S128x16.size (k1_off2_inb L t)).emb p
      = (ix2 ⟨128 * blkNo L t + (p 0).val, by have := blkNo_lt L t; have h : (p 0).val < 128 := (p 0).isLt; omega⟩ ⟨(p 1).val, (p 1).isLt⟩ : S16384x16.Idx) := by
  rw [ValueIdx.eq_ix2 ((Rect.unit (s := S16384x16) (k1_off2 L t) S128x16.size (k1_off2_inb L t)).emb p)]
  exact congrArg₂ _ (Fin.ext (rowBlk_emb L t p).1) (Fin.ext (rowBlk_emb L t p).2)

/-- The dense rows read through the slice are the block's rows. -/
theorem dnBlk_read (L : grid1.Coords) (t : Fin k1_t1_loop.trips) (A : Vec F S16384x16 .f32) :
    (dnBlk L t).view.read (Elt F) A = rowsOf L t A := by
  funext p
  exact (show _ = A ((Rect.unit (s := S16384x16) (k1_off2 L t) S128x16.size (k1_off2_inb L t)).emb p) from rfl).trans (congrArg A (rowBlk_eq L t p))

/-! ## What the array of output rows holds -/

variable [FloatOps F]

/-- THE RESULT of the tiles' kernel from the ids `A`, the dense rows `DV` and the table `E`: row `r` sums dense row `r` and the 26
    table rows that `r`'s ids name, each in its own field's part of the table, and takes the maximum with zero. -/
def outVal (A : S425984.Idx → BitVec 32) (DV : Vec F S16384x16 .f32) (E : Vec F S2600000x16 .f32) : Vec F S16384x16 .f32 :=
  fun x => rowVal (DV x) fun k => E (tblIdx (A (ix1 ⟨26 * (x 0).val + k.val, by
    have h : (x 0).val < 16384 := (x 0).isLt
    have := k.isLt; omega⟩) + fieldBase k.val) ⟨(x 1).val, (x 1).isLt⟩)

/-- A block's output rows are its rows of the result. -/
theorem blockOut_eq (L : grid1.Coords) (t : Fin k1_t1_loop.trips) (A : S425984.Idx → BitVec 32) (DV : Vec F S16384x16 .f32)
    (E : Vec F S2600000x16 .f32) :
    blockOut (gathered E (shifted 3328 (idsOf L t A))) (rowsOf L t DV) = rowsOf L t (outVal A DV E) := by
  funext p
  have hb := blkNo_lt L t
  have hp : (p 0).val < 128 := (p 0).isLt
  refine Eq.trans (b := rowVal (rowsOf L t DV p) fun k : Fin 26 => E (tblIdx (A (ix1 (n := 425984)
    ⟨26 * (128 * blkNo L t + (p 0).val) + k.val, by have := k.isLt; omega⟩) + fieldBase k.val) ⟨(p 1).val, (p 1).isLt⟩)) ?_ rfl
  unfold blockOut
  refine congrArg (rowVal (F := F) _) (funext fun k => ?_)
  unfold gathered
  rw [shifted_all]
  have hb : fieldBase (26 * (p 0).val + k.val) = fieldBase k.val := by
    unfold fieldBase; rw [Nat.mul_add_mod]
  refine congrArg E (congrArg₂ tblIdx ?_ rfl)
  refine congrArg₂ (· + ·) (congrArg A (congrArg (ix1 (n := 425984)) (Fin.ext ?_))) hb
  show 3328 * blkNo L t + (26 * (p 0).val + k.val) = 26 * (128 * blkNo L t + (p 0).val) + k.val
  omega

/-- A block's row numbers are rows of the table, every id being below 100000. -/
theorem shifted_lt (L : grid1.Coords) (t : Fin k1_t1_loop.trips) (A : S425984.Idx → BitVec 32) (hA : ∀ j, (A j).toNat < 100000) (p : S3328.Idx) :
    (shifted 3328 (idsOf L t A) p).toNat < 2600000 := by
  rw [shifted_all]
  unfold fieldBase
  have h1 : (idsOf L t A p).toNat < 100000 := hA _
  have h2 : (p 0).val % 26 < 26 := Nat.mod_lt _ (by decide)
  rw [BitVec.toNat_add, BitVec.toNat_ofNat]
  generalize (idsOf L t A p).toNat = a at *
  generalize (p 0).val % 26 = m at *
  have h3 : m * 100000 < 2 ^ 32 := by omega
  have h4 : a + m * 100000 < 2 ^ 32 := by omega
  rw [Nat.mod_eq_of_lt h3, Nat.mod_eq_of_lt h4]
  omega

/-- A tile's own waits added to the recorded ones. -/
theorem own_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (by rw [hp]; rfl)
  · exact h p hp

variable (d : Dev nD) (L : grid1.Coords)

set_option maxHeartbeats 1000000 in
/-- The fetches: the block's ids and dense rows in the tile's buffers. -/
theorem wp_fetch (t : Fin k1_t1_loop.trips) (qi qd : PosShare TreeShare) (A : S425984.Idx → BitVec 32) (DV : Vec F S16384x16 .f32)
    (g : S3328.Idx → BitVec 32) (Dn : Vec F S128x16 .f32) (O : CellTallies nD τ sig (HIx 1)) (W : Waits sig (HIx 1)) :
    iprop(((idV).view.loc (thr d L) ↦{qi} A) ∗ ((dnV).view.loc (thr d L) ↦{qd} DV)
        ∗ ((ixS).view.loc (thr d L) ↦{fullShare} g) ∗ ((dnS).view.loc (thr d L) ↦{fullShare} Dn)
        ∗ semVal (thr d L, SemLoc.dma cc1_scoped0.sem) 0 ∗ semVal (thr d L, SemLoc.dma cc1_scoped1.sem) 0
        ∗ OwesMore (F := F) d L O W ∗ Transfers.MayWaits (thr d L) (default : HIx 1) O)
      ⊢ wp frame (wpE (defs₀ (F := F)) 𝒱₀ (thr d L) none) Set.univ (fetch L t)
          fun _ => (iprop(((idV).view.loc (thr d L) ↦{qi} A) ∗ ((dnV).view.loc (thr d L) ↦{qd} DV)
            ∗ ((ixS).view.loc (thr d L) ↦{fullShare} idsOf L t A) ∗ ((dnS).view.loc (thr d L) ↦{fullShare} rowsOf L t DV)
            ∗ semVal (thr d L, SemLoc.dma cc1_scoped0.sem) 0 ∗ semVal (thr d L, SemLoc.dma cc1_scoped1.sem) 0
            ∗ OwesMore (F := F) d L O W) : sProp 𝕄) := by
  unfold fetch OwesMore
  iintro ⟨HA, HD, Hix, Hdn, Hs0, Hs1, ⟨%W', %hW', HO⟩, #Hmw⟩
  sl_exec (disch := exact View.amount_pos _ _ (show 0 < S3328.numel by decide))
  sl_step
  rw [show wp_fetch.sl.dma0 (F := F) L t A = idsOf L t A by unfold wp_fetch.sl.dma0; rw [ReadAs.apply_same]; exact idBlk_read L t A,
    show wp_fetch.sl.dma0_1 (F := F) L t DV = rowsOf L t DV by unfold wp_fetch.sl.dma0_1; rw [ReadAs.apply_same]; exact dnBlk_read L t DV,
    show View.write (Elt F) ixS.view g (idsOf L t A) Finset.univ = idsOf L t A from View.write_whole_univ _ _ _,
    show View.write (Elt F) dnS.view Dn (rowsOf L t DV) Finset.univ = rowsOf L t DV from View.write_whole_univ _ _ _]
  isplitl [HA]; · iexact HA
  isplitl [HD]; · iexact HD
  isplitl [Hix]; · iexact Hix
  isplitl [Hdn]; · iexact Hdn
  isplitl [Hs0]; · iexact Hs0
  isplitl [Hs1]; · iexact Hs1
  iexists _
  isplitr [HO]; swap; · iexact HO
  ipureintro
  exact own_insert _ (own_insert _ hW')

set_option maxHeartbeats 1000000 in
/-- The write-out: the block's rows of the result, from the tile's output buffer. -/
theorem wp_writeOut (t : Fin k1_t1_loop.trips) (G f : Vec F S16384x16 .f32)
    (O : CellTallies nD τ sig (HIx 1)) (W : Waits sig (HIx 1)) :
    iprop(((otS).view.loc (thr d L) ↦{fullShare} rowsOf L t G) ∗ ((outBlk L t).view.loc (thr d L) ↦[(outBlk L t).view.set]{fullShare} f)
        ∗ semVal (thr d L, SemLoc.dma cc1_scoped2.sem) 0 ∗ OwesMore (F := F) d L O W ∗ Transfers.MayWaits (thr d L) (default : HIx 1) O)
      ⊢ wp frame (wpE (defs₀ (F := F)) 𝒱₀ (thr d L) none) Set.univ (writeOut L t)
          fun _ => (iprop(((otS).view.loc (thr d L) ↦{fullShare} rowsOf L t G) ∗ ((outBlk L t).view.loc (thr d L) ↦[(outBlk L t).view.set]{fullShare} G)
            ∗ semVal (thr d L, SemLoc.dma cc1_scoped2.sem) 0 ∗ OwesMore (F := F) d L O W) : sProp 𝕄) := by
  unfold writeOut OwesMore
  iintro ⟨Hot, Hout, Hs2, ⟨%W', %hW', HO⟩, #Hmw⟩
  sl_exec (disch := exact View.amount_pos _ _ (show 0 < S128x16.numel by decide))
  sl_step
  have hw : ∀ x ∈ (outBlk L t).view.set,
      (outBlk L t).view.writes (Elt F) f [⟨Rect.whole S128x16, wp_writeOut.sl.dma0 (F := F) L t G⟩] x = G x := by
    intro x hx
    obtain ⟨p, -, rfl⟩ := Finset.mem_map.mp hx
    have h := View.write_emb_of_mem (v := (outBlk L t).view.slice (Rect.whole S128x16)) (Val := Elt F) f (wp_writeOut.sl.dma0 (F := F) L t G) (Finset.mem_univ p)
    rw [show ((outBlk L t).view.slice (Rect.whole S128x16)).emb p = (outBlk L t).view.emb p from
      congrArg (outBlk L t).view.emb (Rect.emb_whole_apply S128x16 p)] at h
    rw [View.writes_singleton, h]
    exact (show _ = rowsOf L t G p from rfl).trans (congrArg G (rowBlk_eq L t p).symm)
  ihave Hout := (Entails.of_eq (pointsTo_congr hw)) $$ Hout
  isplitl [Hot]; · iexact Hot
  isplitl [Hout]; · iexact Hout
  isplitl [Hs2]; · iexact Hs2
  iexists _
  isplitr [HO]; swap; · iexact HO
  ipureintro
  exact own_insert _ hW'

/-! ## The trip -/

/-- What a tile holds between trips: its shares of the ids, the dense rows and the table, its four buffers at some contents, its
    semaphores at zero, its recorded waits. -/
def Tile (qi qd qt : PosShare TreeShare) (A : S425984.Idx → BitVec 32) (DV : Vec F S16384x16 .f32) (E : Vec F S2600000x16 .f32)
    (O : CellTallies nD τ sig (HIx 1)) (W : Waits sig (HIx 1)) : sProp 𝕄 :=
  iprop(((idV).view.loc (thr d L) ↦{qi} A) ∗ ((dnV).view.loc (thr d L) ↦{qd} DV) ∗ ((tbV).view.loc (thr d L) ↦{qt} E)
    ∗ (∃ g, (ixS).view.loc (thr d L) ↦{fullShare} g) ∗ (∃ R, (rwS).view.loc (thr d L) ↦{fullShare} R)
    ∗ (∃ Dn, (dnS).view.loc (thr d L) ↦{fullShare} Dn) ∗ (∃ f, (otS).view.loc (thr d L) ↦{fullShare} f)
    ∗ semVal (thr d L, SemLoc.dma cc1_scratch4.sem) 0 ∗ semVal (thr d L, SemLoc.dma cc1_scoped0.sem) 0
    ∗ semVal (thr d L, SemLoc.dma cc1_scoped1.sem) 0 ∗ semVal (thr d L, SemLoc.dma cc1_scoped2.sem) 0
    ∗ OwesMore (F := F) d L O W)

set_option maxHeartbeats 1000000 in
/-- ONE TRIP: the block's rows of the result are written. -/
theorem wp_block (t : Fin k1_t1_loop.trips) (qi qd qt : PosShare TreeShare) (A : S425984.Idx → BitVec 32) (DV : Vec F S16384x16 .f32)
    (E : Vec F S2600000x16 .f32) (hA : ∀ j, (A j).toNat < 100000) (f : Vec F S16384x16 .f32)
    (O : CellTallies nD τ sig (HIx 1)) (W : Waits sig (HIx 1)) :
    iprop(Tile d L qi qd qt A DV E O W ∗ ((outBlk L t).view.loc (thr d L) ↦[(outBlk L t).view.set]{fullShare} f)
        ∗ Transfers.MayWaits (thr d L) (default : HIx 1) O)
      ⊢ wp frame (wpE (defs₀ (F := F)) 𝒱₀ (thr d L) none) Set.univ (blockTrip L t ⟨⟩)
          fun _ => iprop(Tile d L qi qd qt A DV E O W ∗ ((outBlk L t).view.loc (thr d L) ↦[(outBlk L t).view.set]{fullShare} outVal A DV E)) := by
  rw [blockTrip_eq]
  unfold Tile
  iintro ⟨⟨HA, HD, HE, ⟨%g, Hix⟩, ⟨%R, Hrw⟩, ⟨%Dn, Hdn⟩, ⟨%f', Hot⟩, Hs4, Hs0, Hs1, Hs2, HO⟩, Hout, #Hmw⟩
  rw [wp_bind]
  iapply wp_wand $$ [HA HD Hix Hdn Hs0 Hs1 HO]
  · iapply (wp_fetch d L t qi qd A DV g Dn O W)
    isplitl [HA]; · iexact HA
    isplitl [HD]; · iexact HD
    isplitl [Hix]; · iexact Hix
    isplitl [Hdn]; · iexact Hdn
    isplitl [Hs0]; · iexact Hs0
    isplitl [Hs1]; · iexact Hs1
    isplitl [HO]; · iexact HO
    iexact Hmw
  iintro %_ ⟨HA, HD, Hix, Hdn, Hs0, Hs1, HO⟩
  rw [wp_bind]
  iapply wp_wand $$ [Hix]
  · iapply (Shift.wp_shift d L (idsOf L t A))
    iexact Hix
  iintro %_ Hix
  rw [← bind_assoc, wp_bind]
  iapply wp_wand $$ [Hrw Hix HE Hs4 HO]
  · iapply (wp_gathers d L qt E (shifted 3328 (idsOf L t A)) R (shifted_lt L t A hA) O W)
    isplitl [Hrw Hix]; · isplitl [Hrw] <;> iassumption
    isplitl [HE]; · iexact HE
    isplitl [Hs4]; · iexact Hs4
    isplitl [HO]; · iexact HO
    iexact Hmw
  iintro %_ ⟨⟨Hrw, Hix⟩, HE, Hs4, HO⟩
  rw [wp_bind]
  iapply wp_wand $$ [Hrw Hdn Hot]
  · iapply (wp_sum d L (gathered E (shifted 3328 (idsOf L t A))) (rowsOf L t DV) f')
    isplitl [Hrw]; · iexact Hrw
    isplitl [Hdn]; · iexact Hdn
    iexact Hot
  rw [blockOut_eq]
  iintro %_ ⟨Hrw, Hdn, Hot⟩
  iapply wp_wand $$ [Hot Hout Hs2 HO]
  · iapply (wp_writeOut d L t (outVal A DV E) f O W)
    isplitl [Hot]; · iexact Hot
    isplitl [Hout]; · iexact Hout
    isplitl [Hs2]; · iexact Hs2
    isplitl [HO]; · iexact HO
    iexact Hmw
  iintro %_ ⟨Hot, Hout, Hs2, HO⟩
  isplitr [Hout]; swap; · iexact Hout
  isplitl [HA]; · iexact HA
  isplitl [HD]; · iexact HD
  isplitl [HE]; · iexact HE
  isplitl [Hix]; · iexists _; iexact Hix
  isplitl [Hrw]; · iexists _; iexact Hrw
  isplitl [Hdn]; · iexists _; iexact Hdn
  isplitl [Hot]; · iexists _; iexact Hot
  isplitl [Hs4]; · iexact Hs4
  isplitl [Hs0]; · iexact Hs0
  isplitl [Hs1]; · iexact Hs1
  isplitl [Hs2]; · iexact Hs2
  iexact HO

end Cert.Proof.Block
-- ==== Proof.Tile.lean ====
/-
  A tile's task: four trips, each writing its own block of the result.
-/
module

public import proofs.«01_k».proof.Proof.Block

@[expose] public section

noncomputable section

namespace Cert.Proof.Tile

open Cert.KernelIdeal Cert.KernelIdeal.Gen Cert.Proof.Setup Cert.Proof.Text Cert.Proof.Gathers Cert.Proof.Block
open Idealize.ShloMosaic
open Idealize.ShloMosaic.SparseCore (V)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks of the result -/

/-- Block `n`'s elements: those of the batch rows from `128 n` to `128 n + 127`. -/
def blkSet (n : ℕ) : Finset S16384x16.Idx := Finset.univ.filter fun x => (x 0).val / 128 = n

/-- The words of block `t`'s slice of the result. -/
theorem set_outBlk (L : grid1.Coords) (t : Fin k1_t1_loop.trips) : (outBlk L t).view.set = blkSet (blkNo L t) := by
  have hn := blkNo_lt L t
  ext x
  constructor
  · intro h
    obtain ⟨p, -, rfl⟩ := Finset.mem_map.mp h
    refine Finset.mem_filter.mpr ⟨Finset.mem_univ _, ?_⟩
    have e := (rowBlk_emb L t p).1
    have hp : (p 0).val < 128 := (p 0).isLt
    refine (congrArg (· / 128) e).trans ?_
    show (128 * blkNo L t + (p 0).val) / 128 = blkNo L t
    omega
  · intro h
    have h := (Finset.mem_filter.mp h).2
    have hx0 : (x 0).val < 16384 := (x 0).isLt
    refine Finset.mem_map.mpr ⟨ValueIdx.ix2 ⟨(x 0).val % 128, Nat.mod_lt _ (by decide)⟩ ⟨(x 1).val, (x 1).isLt⟩, Finset.mem_univ _, ?_⟩
    refine (rowBlk_eq L t _).trans ((congrArg₂ (ValueIdx.ix2 (n0 := 16384) (n1 := 16)) (Fin.ext ?_) (Fin.ext rfl)).trans (ValueIdx.eq_ix2 x).symm)
    show 128 * blkNo L t + (x 0).val % 128 = (x 0).val
    omega

section Tile
variable (d : Dev nD) (L : grid1.Coords)

/-- The slice owned is the block owned. -/
theorem pts_outBlk (t : Fin k1_t1_loop.trips) (f : Vec F S16384x16 .f32) :
    ((outBlk L t).view.loc (thr d L) ↦[(outBlk L t).view.set]{fullShare} f : sProp 𝕄) = outLoc d ↦[blkSet (blkNo L t)]{fullShare} f := by
  rw [set_outBlk]

/-- A tile's four blocks of the result, at the values of `f`. -/
abbrev blocks (f : Fin k1_t1_loop.trips → Vec F S16384x16 .f32) : sProp 𝕄 :=
  bigSep Finset.univ fun t : Fin k1_t1_loop.trips => outLoc d ↦[blkSet (blkNo L t)]{fullShare} f t

variable [FloatOps F]

/-! ## The loop -/

/-- Before trip `n` the first `n` blocks are written. -/
def inv (q : PosShare TreeShare) (A : S425984.Idx → BitVec 32) (DV : Vec F S16384x16 .f32) (E : Vec F S2600000x16 .f32)
    (f : Vec F S16384x16 .f32) (O : CellTallies nD τ sig (HIx 1)) (W : Waits sig (HIx 1)) (n : ℕ) (_ : PUnit) : sProp 𝕄 :=
  iprop(Block.Tile d L q q q A DV E O W ∗ blocks d L (fun t => if t.val < n then outVal A DV E else f)
    ∗ Transfers.MayWaits (thr d L) (default : HIx 1) O)

/-- THE TILE'S LOOP: its four blocks are written. -/
theorem wp_blocks (q : PosShare TreeShare) (A : S425984.Idx → BitVec 32) (DV : Vec F S16384x16 .f32) (E : Vec F S2600000x16 .f32)
    (hA : ∀ j, (A j).toNat < 100000) (f : Vec F S16384x16 .f32) (O : CellTallies nD τ sig (HIx 1)) (W : Waits sig (HIx 1)) :
    iprop(Block.Tile d L q q q A DV E O W ∗ blocks d L (fun _ => f) ∗ Transfers.MayWaits (thr d L) (default : HIx 1) O)
      ⊢ wp frame (wpE (defs₀ (F := F)) 𝒱₀ (thr d L) none) Set.univ (Scf.Loop.for k1_t1_loop k1_t1_ok ⟨⟩ (blockTrip L))
          fun _ => iprop(Block.Tile d L q q q A DV E O W ∗ blocks d L (fun _ => outVal A DV E)) := by
  refine BIBase.Entails.trans ?_ (Scf.wp_for _ _ _ k1_t1_loop.lb k1_t1_loop.ub k1_t1_loop.st k1_t1_ok ⟨⟩ (blockTrip L) (inv d L q A DV E f O W) ?_)
  · unfold inv
    iintro ⟨HT, Hb, #Hmw⟩
    isplitl [HT Hb]
    · isplitl [HT]; · iexact HT
      isplitl [Hb]
      · simp only [Nat.not_lt_zero, if_false]; iexact Hb
      iexact Hmw
    iintro %_ ⟨HT, Hb, -⟩
    isplitl [HT]; · iexact HT
    rw [show (fun _ : Fin k1_t1_loop.trips => outVal A DV E)
      = fun t : Fin k1_t1_loop.trips => if t.val < k1_t1_loop.trips then outVal A DV E else f from funext fun t => (if_pos t.isLt).symm]
    iexact Hb
  · intro k _
    unfold inv blocks
    rw [SparseCore.bigSep_erase' (Finset.mem_univ k), SparseCore.bigSep_erase' (Finset.mem_univ k)]
    beta_reduce
    rw [if_neg (lt_irrefl _), if_pos (Nat.lt_succ_self _),
      ← pts_outBlk, ← pts_outBlk]
    rw [BI.bigSep_congr (s := Finset.univ.erase k) (Φ := fun t : Fin k1_t1_loop.trips => (outLoc d ↦[blkSet (blkNo L t)]{fullShare} (if t.val < k.val + 1 then outVal A DV E else f) : sProp 𝕄))
      (Ψ := fun t : Fin k1_t1_loop.trips => (outLoc d ↦[blkSet (blkNo L t)]{fullShare} (if t.val < k.val then outVal A DV E else f) : sProp 𝕄)) fun t ht => by
        have hne : t.val ≠ k.val := fun h => (Finset.mem_erase.mp ht).1 (Fin.ext h)
        by_cases h : t.val < k.val
        · rw [if_pos h, if_pos (by omega)]
        · rw [if_neg h, if_neg (by omega)]]
    iintro ⟨HT, ⟨Hk, Hb⟩, #Hmw⟩
    iapply wp_wand $$ [HT Hk]
    · iapply (wp_block d L k q q q A DV E hA f O W)
      isplitl [HT]; · iexact HT
      isplitl [Hk]; · iexact Hk
      iexact Hmw
    iintro %_ ⟨HT, Hk⟩
    isplitl [HT]; · iexact HT
    isplitl [Hk Hb]
    · isplitl [Hk] <;> iassumption
    iexact Hmw

/-! ## The tile's own buffers and semaphores -/

/-- One of the tile's semaphores. -/
abbrev semAt (s : DmaSems sig S_) : GSem nD τ sig := (thr d L, .dma s.sem)

omit [FloatOps F] in
/-- The tile's semaphores at zero: the gathers', the three copies', and the rest. -/
theorem ownSems0_tile :
    (ownSems0 (thr d L) : sProp 𝕄)
      = iprop(semVal (semAt d L cc1_scratch4) 0 ∗ semVal (semAt d L cc1_scoped0) 0 ∗ semVal (semAt d L cc1_scoped1) 0 ∗ semVal (semAt d L cc1_scoped2) 0
          ∗ bigSep (((((ownCells (thr d L)).erase (semAt d L cc1_scratch4)).erase (semAt d L cc1_scoped0)).erase (semAt d L cc1_scoped1)).erase (semAt d L cc1_scoped2))
              fun g => semVal g 0) := by
  have hm : ∀ s : DmaSems sig S_, (SemLoc.dma s.sem : SemLoc sig).isScoped .scVector = true → semAt d L s ∈ ownCells (thr d L) :=
    fun s h => mem_ownCells.mpr ⟨rfl, h⟩
  have hne : ∀ s s' : DmaSems sig S_, s.sem ≠ s'.sem → semAt d L s ≠ semAt d L s' := fun s s' h e => h (by
    have := (Prod.mk.inj e).2
    exact SemLoc.dma.inj this)
  unfold SparseCore.Cfg.ownSems0
  rw [SparseCore.bigSep_erase' (hm cc1_scratch4 (by decide)),
    SparseCore.bigSep_erase' (Finset.mem_erase.mpr ⟨hne cc1_scoped0 cc1_scratch4 (by decide), hm cc1_scoped0 (by decide)⟩),
    SparseCore.bigSep_erase' (Finset.mem_erase.mpr ⟨hne cc1_scoped1 cc1_scoped0 (by decide),
      Finset.mem_erase.mpr ⟨hne cc1_scoped1 cc1_scratch4 (by decide), hm cc1_scoped1 (by decide)⟩⟩),
    SparseCore.bigSep_erase' (Finset.mem_erase.mpr ⟨hne cc1_scoped2 cc1_scoped1 (by decide),
      Finset.mem_erase.mpr ⟨hne cc1_scoped2 cc1_scoped0 (by decide),
        Finset.mem_erase.mpr ⟨hne cc1_scoped2 cc1_scratch4 (by decide), hm cc1_scoped2 (by decide)⟩⟩⟩)]

/-- One of the tile's buffers. -/
abbrev refAt (b : Ref sig .scVector) : DevRef τ sig := (Proc.scVector (cV L) (jV L)).devRef b

omit [FloatOps F] in
/-- The tile's buffers: the four scratch buffers, and the rest. -/
theorem ownBufs_tile :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase (refAt L cc1_scratch0)).erase (refAt L cc1_scratch1)).erase (refAt L cc1_scratch2)).erase
              (refAt L cc1_scratch3)) fun b => iprop(∃ f, ((d, b) : Loc nD τ sig) ↦{fullShare} f)) := by
  have hne : ∀ b b' : Ref sig .scVector, b ≠ b' → refAt L b ≠ refAt L b' := fun b b' h e => h (Proc.devRef_injective _ e)
  unfold SparseCore.Cfg.ownBufs
  refine (SparseCore.bigSep_erase' (SparseCore.Cfg.mem_ownRefs_of_owner (p := Proc.scVector (cV L) (jV L)) (b := refAt L cc1_scratch0) rfl)).trans ?_
  rw [SparseCore.bigSep_erase' (Finset.mem_erase.mpr ⟨hne cc1_scratch1 cc1_scratch0 (by decide),
      SparseCore.Cfg.mem_ownRefs_of_owner (p := Proc.scVector (cV L) (jV L)) (b := refAt L cc1_scratch1) rfl⟩),
    SparseCore.bigSep_erase' (Finset.mem_erase.mpr ⟨hne cc1_scratch2 cc1_scratch1 (by decide), Finset.mem_erase.mpr ⟨hne cc1_scratch2 cc1_scratch0 (by decide),
      SparseCore.Cfg.mem_ownRefs_of_owner (p := Proc.scVector (cV L) (jV L)) (b := refAt L cc1_scratch2) rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide),
      SparseCore.Cfg.mem_ownRefs_of_owner (p := Proc.scVector (cV L) (jV L)) (b := refAt L cc1_scratch3) rfl⟩⟩⟩)]

/-! ## The task -/

/-- What a tile is handed, at share `q` of the ids, the dense rows and the table, and with its blocks of the result at `f`. -/
abbrev pieces (q : PosShare TreeShare) (A : S425984.Idx → BitVec 32) (DV : Vec F S16384x16 .f32) (E : Vec F S2600000x16 .f32)
    (f : Vec F S16384x16 .f32) : sProp 𝕄 :=
  iprop((idLoc d ↦{q} A) ∗ (dnLoc d ↦{q} DV) ∗ (tbLoc d ↦{q} E) ∗ blocks d L (fun _ => f))

/-- THE TASK on the tile at `L`: its blocks are written with the result's rows, and all it was handed comes back. -/
theorem tile_body (hF : (K (F := F)).Facts) (q : PosShare TreeShare) (A : S425984.Idx → BitVec 32) (DV : Vec F S16384x16 .f32)
    (E : Vec F S2600000x16 .f32) (hA : ∀ j, (A j).toNat < 100000) (f : Vec F S16384x16 .f32)
    (O : CellTallies nD τ sig (HIx 1)) (W : Waits sig (HIx 1)) (hO : ∀ g, O g none = 0) :
    iprop(levAts (K (F := F)).L (K (F := F)).lev ∗ emp ∗ pieces d L q A DV E f
        ∗ scopedBufs (thr d L) ∗ scopedSems0 (thr d L) ∗ owes (thr d L) O W)
      ⊢ wp frame (wpE (defs₀ (F := F)) 𝒱₀ (thr d L) none) Set.univ
          (cc1__sc_gather_sum L idV (Memref.isWhole_whole _) dnV (Memref.isWhole_whole _) tbV (Memref.isWhole_whole _) outV (Memref.isWhole_whole _)
            ixS (Memref.isWhole_whole _) rwS (Memref.isWhole_whole _) dnS (Memref.isWhole_whole _) otS (Memref.isWhole_whole _)
            cc1_scratch4 cc1_scoped0 cc1_scoped1 cc1_scoped2)
          fun _ => iprop(pieces d L q A DV E (outVal A DV E) ∗ scopedBufs (thr d L) ∗ scopedSems0 (thr d L)
            ∗ ∃ W', ⌜∀ p ∈ W', p ∈ W ∨ p.2 = none⌝ ∗ owes (thr d L) O W') := by
  rw [show cc1__sc_gather_sum (F := F) L idV (Memref.isWhole_whole _) dnV (Memref.isWhole_whole _) tbV (Memref.isWhole_whole _) outV (Memref.isWhole_whole _)
            ixS (Memref.isWhole_whole _) rwS (Memref.isWhole_whole _) dnS (Memref.isWhole_whole _) otS (Memref.isWhole_whole _)
            cc1_scratch4 cc1_scoped0 cc1_scoped1 cc1_scoped2
      = (Scf.Loop.for k1_t1_loop k1_t1_ok ⟨⟩ (blockTrip L) >>= fun _ => pure ⟨⟩) by rw [cc1__sc_gather_sum_eq_skeleton]; rfl]
  rw [(K (F := F)).scopedBufs_V hF d (cV L) (jV L), SparseCore.Cfg.scopedSems0_V (Val := Elt F) d (cV L) (jV L), ownSems0_tile, ownBufs_tile]
  iintro ⟨#Hlv, -, ⟨HA, HD, HE, Hb⟩, ⟨H0, H1, H2, H3, Hbufs⟩, ⟨Hs4, Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  rw [wp_bind]
  iapply wp_wand $$ [HA HD HE Hb H0 H1 H2 H3 Hs4 Hs0 Hs1 Hs2 HO Hmw]
  · iapply (wp_blocks d L q A DV E hA f O W)
    isplitr [Hb Hmw]
    · unfold Block.Tile OwesMore
      isplitl [HA]; · iexact HA
      isplitl [HD]; · iexact HD
      isplitl [HE]; · iexact HE
      isplitl [H0]; · iexact H0
      isplitl [H1]; · iexact H1
      isplitl [H2]; · iexact H2
      isplitl [H3]; · iexact H3
      isplitl [Hs4]; · iexact Hs4
      isplitl [Hs0]; · iexact Hs0
      isplitl [Hs1]; · iexact Hs1
      isplitl [Hs2]; · iexact Hs2
      iexists W
      isplitr [HO]; swap; · iexact HO
      ipureintro; exact fun p hp => Or.inl hp
    isplitl [Hb]; · iexact Hb
    iexact Hmw
  unfold Block.Tile OwesMore
  iintro %_ ⟨⟨HA, HD, HE, H0, H1, H2, H3, Hs4, Hs0, Hs1, Hs2, HO⟩, Hb⟩
  rw [wp_pure]
  imodintro
  isplitl [HA HD HE Hb]
  · isplitl [HA]; · iexact HA
    isplitl [HD]; · iexact HD
    isplitl [HE]; · iexact HE
    iexact Hb
  isplitl [H0 H1 H2 H3 Hbufs]
  · isplitl [H0]; · iexact H0
    isplitl [H1]; · iexact H1
    isplitl [H2]; · iexact H2
    isplitl [H3]; · iexact H3
    iexact Hbufs
  isplitl [Hs4 Hs0 Hs1 Hs2 Hsems]
  · isplitl [Hs4]; · iexact Hs4
    isplitl [Hs0]; · iexact Hs0
    isplitl [Hs1]; · iexact Hs1
    isplitl [Hs2]; · iexact Hs2
    iexact Hsems
  iexact HO

end Tile

end Cert.Proof.Tile
-- ==== Proof.Deal.lean ====
/-
  What the SparseCore call's handshakes carry: every core and every tile a read share of the flat ids, of the dense rows and of
  the table, and its own blocks of the result; how the whole splits into these and is rebuilt.
-/
module

public import proofs.«01_k».proof.Proof.Tile
public import Idealize.ShloMosaic.Lib.ValueIdx

@[expose] public section

noncomputable section

namespace Cert.Proof.Deal

open Cert.KernelIdeal Cert.KernelIdeal.Gen Cert.Proof.Setup Cert.Proof.Block Cert.Proof.Tile
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD)

/-! ## What the call finds and leaves, from the launch memory -/

omit [FloatOps F] in
/-- The ids, flat. -/
def idsV : S425984.Idx → BitVec 32 := shapeCast S425984 (m ((SparseCore.T d).loc main_arg1)) shapeCasts_S16384x26_S425984

/-- The dense layer's rows. -/
def denseV : Vec F S16384x16 .f32 :=
  k0_pay1 (m ((SparseCore.T d).loc main_arg0))
    (transpose S13x16 [1, 0] (m ((SparseCore.T d).loc main_arg2)) transposes_S16x13_S13x16_1_0)
    (shapeCast S1x16 (m ((SparseCore.T d).loc main_arg3)) shapeCasts_S16_S1x16)
    (m ((SparseCore.T d).loc main_arg5))

/-- The result. -/
def resV : Vec F S16384x16 .f32 := outVal (idsV m d) (denseV m d) (m (tbLoc d))

/-- Every id is a row of its field's part of the table. -/
def PreOK : Prop := ∀ (d : Dev nD) (j : S16384x26.Idx), (m ((SparseCore.T d).loc main_arg1) j : BitVec 32).toNat < 100000

omit [FloatOps F] in
/-- The flat ids are in range where the ids are. -/
theorem idsV_lt (h : PreOK m) (j : S425984.Idx) : (idsV m d j).toNat < 100000 := h d _

/-! ## The shares -/

omit m d [FloatOps F] in
/-- Core `c`'s share of an operand, and tile `s`'s of core `c`'s. -/
abbrev cq (c : Fin 2) : PosShare TreeShare := pieceOf fullShare 2 (by decide) c
/-- A tile's share of what its core reads. -/
abbrev tq (c : Fin 2) (s : Fin 16) : PosShare TreeShare := pieceOf (cq c) 16 (by decide) s

/-- The tile of core `c` numbered `s`. -/
def coordsV (c : Fin (grid1.bound 0)) (s : Fin (grid1.bound 1)) : grid1.Coords :=
  fun | 0 => c | 1 => s | ⟨_ + 2, h⟩ => absurd h (Nat.not_lt.2 (Nat.le_add_left _ _))

/-- The coordinates of tile `s` of core `c`. -/
abbrev tileAt (c : Fin 2) (s : Fin 16) : grid1.Coords := coordsV c s

/-- What tile `s` of core `c` holds, its blocks of the result at `f`'s values. -/
abbrev tilePts (c : Fin 2) (s : Fin 16) (f : Vec F S16384x16 .f32) : sProp 𝕄 :=
  pieces d (tileAt c s) (tq c s) (idsV m d) (denseV m d) (m (tbLoc d)) f

/-- What core `c` holds. -/
abbrev corePts (c : Fin 2) (f : Vec F S16384x16 .f32) : sProp 𝕄 :=
  iprop((idLoc d ↦{cq c} idsV m d) ∗ (dnLoc d ↦{cq c} denseV m d) ∗ (tbLoc d ↦{cq c} m (tbLoc d))
    ∗ bigSep Finset.univ fun s : Fin 16 => blocks d (tileAt c s) fun _ => f)

omit m d [FloatOps F] in
/-- A share of a whole array is the product of its pieces. -/
theorem whole_cut {ℓ : Loc nD τ sig} (f : Buf (Elt F) ℓ) {o : ℕ} (ho : 0 < o) (q : PosShare TreeShare) :
    (ℓ ↦{q} f : sProp 𝕄) = bigSep Finset.univ fun j : Fin o => ℓ ↦{pieceOf q o ho j} f :=
  pointsTo_piecesOf Finset.univ f ho q

/-- The operands at a share are their pieces'. -/
theorem operands_eq (q : PosShare TreeShare) {o : ℕ} (ho : 0 < o) (R : sProp 𝕄) :
    iprop((idLoc d ↦{q} idsV m d) ∗ (dnLoc d ↦{q} denseV m d) ∗ (tbLoc d ↦{q} m (tbLoc d)) ∗ R)
      = iprop((bigSep Finset.univ fun j : Fin o => idLoc d ↦{pieceOf q o ho j} idsV m d)
        ∗ (bigSep Finset.univ fun j : Fin o => dnLoc d ↦{pieceOf q o ho j} denseV m d)
        ∗ (bigSep Finset.univ fun j : Fin o => tbLoc d ↦{pieceOf q o ho j} m (tbLoc d)) ∗ R) := by
  have h1 := whole_cut (F := F) (ℓ := idLoc d) (idsV m d) ho q
  have h2 := whole_cut (F := F) (ℓ := dnLoc d) (denseV m d) ho q
  have h3 := whole_cut (F := F) (ℓ := tbLoc d) (m (tbLoc d)) ho q
  rw [← h1, ← h2, ← h3]

/-- A core's operands and blocks are its sixteen tiles'. -/
theorem corePts_eq (c : Fin 2) (f : Vec F S16384x16 .f32) :
    corePts m d c f = bigSep Finset.univ fun s : Fin 16 => tilePts m d c s f := by
  unfold corePts tilePts pieces
  rw [bigSep_sep', bigSep_sep', bigSep_sep']
  exact operands_eq m d (cq c) (by decide) _

/-! ## The blocks of all tiles are the result -/

omit m d [FloatOps F] in
/-- The block of a core, a tile and a trip. -/
def blkAt (p : Fin 2 × Fin 16 × Fin k1_t1_loop.trips) : Finset S16384x16.Idx := blkSet (blkNo (tileAt p.1 p.2.1) p.2.2)

omit m d [FloatOps F] in
/-- The number of a tile's block, by core, tile and trip. -/
theorem blkNo_coords (c : Fin 2) (s : Fin 16) (t : Fin k1_t1_loop.trips) : blkNo (tileAt c s) t = 8 * s.val + 4 * c.val + t.val := rfl

omit m d [FloatOps F] in
/-- No two of the blocks share a row. -/
theorem blkAt_disjoint (p : Fin 2 × Fin 16 × Fin k1_t1_loop.trips) (_ : p ∈ Finset.univ) (p' : Fin 2 × Fin 16 × Fin k1_t1_loop.trips) (_ : p' ∈ Finset.univ)
    (hne : p ≠ p') : Disjoint (blkAt p) (blkAt p') := by
  obtain ⟨c, s, t⟩ := p
  obtain ⟨c', s', t'⟩ := p'
  refine Finset.disjoint_left.mpr fun x hx hx' => hne ?_
  have h : (x 0).val / 128 = 8 * s.val + 4 * c.val + t.val := (Finset.mem_filter.mp hx).2
  have h' : (x 0).val / 128 = 8 * s'.val + 4 * c'.val + t'.val := (Finset.mem_filter.mp hx').2
  have ht : t.val < 4 := t.isLt
  have ht' : t'.val < 4 := t'.isLt
  have hc := c.isLt
  have hc' := c'.isLt
  exact Prod.ext (Fin.ext (by show c.val = c'.val; omega))
    (Prod.ext (Fin.ext (by show s.val = s'.val; omega)) (Fin.ext (by show t.val = t'.val; omega)))

omit m d [FloatOps F] in
/-- The blocks are all of the result. -/
theorem blkAt_cover : (Finset.univ : Finset (Fin 2 × Fin 16 × Fin k1_t1_loop.trips)).biUnion blkAt = Finset.univ := by
  refine Finset.eq_univ_of_forall fun x => Finset.mem_biUnion.mpr ?_
  have hx : (x 0).val < 16384 := (x 0).isLt
  refine ⟨(⟨(x 0).val / 128 / 4 % 2, Nat.mod_lt _ (by decide)⟩, ⟨(x 0).val / 128 / 8, by omega⟩, ⟨(x 0).val / 128 % 4, Nat.mod_lt _ (by decide)⟩),
    Finset.mem_univ _, Finset.mem_filter.mpr ⟨Finset.mem_univ _, ?_⟩⟩
  show (x 0).val / 128 = 8 * ((x 0).val / 128 / 8) + 4 * ((x 0).val / 128 / 4 % 2) + (x 0).val / 128 % 4
  omega

omit m [FloatOps F] in
/-- The result array is the product of the tiles' blocks. -/
theorem outPts_eq (f : Vec F S16384x16 .f32) :
    (outLoc d ↦{fullShare} f : sProp 𝕄)
      = bigSep Finset.univ fun c : Fin 2 => bigSep Finset.univ fun s : Fin 16 => blocks d (tileAt c s) fun _ => f := by
  rw [← blkAt_cover, pointsTo_biUnion (ℓ := outLoc d) Finset.univ blkAt blkAt_disjoint, BI.bigSep_univ_prod]
  refine BI.bigSep_congr fun c _ => ?_
  rw [BI.bigSep_univ_prod]
  rfl

/-- The operands whole and the result are the two cores'. -/
theorem cores_eq (f : Vec F S16384x16 .f32) :
    (bigSep Finset.univ fun c : Fin 2 => corePts m d c f)
      = iprop((idLoc d ↦{fullShare} idsV m d) ∗ (dnLoc d ↦{fullShare} denseV m d) ∗ (tbLoc d ↦{fullShare} m (tbLoc d)) ∗ outLoc d ↦{fullShare} f) := by
  unfold corePts
  rw [bigSep_sep', bigSep_sep', bigSep_sep', outPts_eq]
  exact (operands_eq m d fullShare (by decide) _).symm

/-! ## What the handshakes carry -/

/-- The call takes its operands and the result's array in two shares, one to a core; a core deals its own to its tiles; they
    come back with the result written. -/
def P : (K (F := F)).Pay (nD := nD) (Val := Elt F) (Name := ℕ) (U := UU) where
  st := fun q d c => match q with | 0 => corePts m d (Fin.cast nCore_zero c) (m (outLoc d))
  dn := fun q d c => match q with | 0 => corePts m d (Fin.cast nCore_zero c) (resV m d)
  go := fun q d c i => match q with | 0 => tilePts m d (Fin.cast nCore_zero c) (Fin.cast nSub_zero i) (m (outLoc d))
  td := fun q d c i => match q with | 0 => tilePts m d (Fin.cast nCore_zero c) (Fin.cast nSub_zero i) (resV m d)
  x := fun _ _ => iprop(emp)

instance P_storable : (P (F := F) m).IsStorable where
  st q d c := match q with
    | 0 => (inferInstance : BI.Storable (upEmb : UEmb _ 𝕄) (corePts m d (Fin.cast nCore_zero c) (m (outLoc d))))
  dn q d c := match q with
    | 0 => (inferInstance : BI.Storable (upEmb : UEmb _ 𝕄) (corePts m d (Fin.cast nCore_zero c) (resV m d)))
  go q d c i := match q with
    | 0 => (inferInstance : BI.Storable (upEmb : UEmb _ 𝕄) (tilePts m d (Fin.cast nCore_zero c) (Fin.cast nSub_zero i) (m (outLoc d))))
  td q d c i := match q with
    | 0 => (inferInstance : BI.Storable (upEmb : UEmb _ 𝕄) (tilePts m d (Fin.cast nCore_zero c) (Fin.cast nSub_zero i) (resV m d)))

/-! ## The tile's obligation and the deal among the tiles -/

omit m d in
/-- What a tile runs at the call: the kernel's body at the launch's buffers. -/
theorem defs₀_vector (c : Fin τ.nSC) (s : Fin τ.nSub) :
    defs₀ (F := F) (.scVector c s) 1 ()
      = SparseCore.onTile hcore1 hsub1 (fun c s => cc1__sc_gather_sum (coordsV c s) idV (Memref.isWhole_whole _) dnV (Memref.isWhole_whole _)
          tbV (Memref.isWhole_whole _) outV (Memref.isWhole_whole _) ixS (Memref.isWhole_whole _) rwS (Memref.isWhole_whole _)
          dnS (Memref.isWhole_whole _) otS (Memref.isWhole_whole _) cc1_scratch4 cc1_scoped0 cc1_scoped1 cc1_scoped2) ⟨⟩ c s := rfl

omit m d [FloatOps F] in
/-- A tile waited at its own semaphores only, which the call's bookkeeping allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit d in
set_option maxRecDepth 16384 in
/-- Every tile's task brings back its blocks of the result. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tq (Fin.cast nCore_zero c) (Fin.cast nSub_zero i)) (idsV m d) (denseV m d) (m (tbLoc d))
    (idsV_lt m d hpre) (m (outLoc d)) O W hO).trans (wp_mono frame _ _ fun _ => waits_weaken)

omit m d [FloatOps F] in
/-- A product over the call's tiles is one over 16. -/
theorem bigSep_tiles (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)

omit m d [FloatOps F] in
/-- A product over the call's cores is one over 2. -/
theorem bigSep_cores (Φ : Fin 2 → sProp 𝕄) :
    (bigSep Finset.univ fun c : Fin ((K (F := F)).nCore 0) => Φ (Fin.cast nCore_zero c)) = bigSep Finset.univ Φ :=
  BI.bigSep_congr fun _ _ => congrArg Φ (Fin.ext rfl)

omit d in
/-- A core deals to its tiles and gathers from them. -/
theorem vecSplit : (K (F := F)).VecSplit' (P m) 0 := by
  intro d c
  show corePts m d (Fin.cast nCore_zero c) (m (outLoc d)) ⊢ |={Set.univ}=> iprop(
      (bigSep Finset.univ fun i : Fin ((K (F := F)).nSub 0) => tilePts m d (Fin.cast nCore_zero c) (Fin.cast nSub_zero i) (m (outLoc d)))
      ∗ ((bigSep Finset.univ fun i : Fin ((K (F := F)).nSub 0) => tilePts m d (Fin.cast nCore_zero c) (Fin.cast nSub_zero i) (resV m d))
          -∗ corePts m d (Fin.cast nCore_zero c) (resV m d)))
  rw [bigSep_tiles (F := F) (fun i => tilePts m d (Fin.cast nCore_zero c) i (m (outLoc d))),
    bigSep_tiles (F := F) (fun i => tilePts m d (Fin.cast nCore_zero c) i (resV m d)), ← corePts_eq, ← corePts_eq]
  iintro H; imodintro
  isplitl [H]; · iexact H
  iintro H
  iexact H

/-- What the call takes from the TensorCore. -/
theorem st_eq : (bigSep Finset.univ fun c : Fin ((K (F := F)).nCore 0) => (P m).st 0 d c)
    = iprop((idLoc d ↦{fullShare} idsV m d) ∗ (dnLoc d ↦{fullShare} denseV m d) ∗ (tbLoc d ↦{fullShare} m (tbLoc d)) ∗ outLoc d ↦{fullShare} m (outLoc d)) :=
  (bigSep_cores (F := F) fun c => corePts m d c (m (outLoc d))).trans (cores_eq m d _)

/-- What it gives back. -/
theorem dn_eq : (bigSep Finset.univ fun c : Fin ((K (F := F)).nCore 0) => (P m).dn 0 d c)
    = iprop((idLoc d ↦{fullShare} idsV m d) ∗ (dnLoc d ↦{fullShare} denseV m d) ∗ (tbLoc d ↦{fullShare} m (tbLoc d)) ∗ outLoc d ↦{fullShare} resV m d) :=
  (bigSep_cores (F := F) fun c => corePts m d c (resV m d)).trans (cores_eq m d _)

end Cert.Proof.Deal
-- ==== Proof.Dense.lean ====
/-
  The TensorCore's part: the dense layer, run by the pipeline over whole arrays at its one grid point, lifted to the whole
  program's table of bodies.
-/
module

public import proofs.«01_k».proof.Proof.Setup
public import proofs.«01_k».proof.Proof.Gen.KernelIdeal.Launch
public import Idealize.ShloMosaic.Lib.Pipeline.RegionsLoop
public import Idealize.ShloMosaic.Lib.Pipeline.ValueKit.Geometry

@[expose] public section

noncomputable section

namespace Cert.Proof.Dense

open Cert.KernelIdeal Cert.KernelIdeal.Gen Cert.Proof.Setup
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The body -/

/-- Two zero offsets. -/
theorem zeros2 : (![0, 0] : Fin 2 → ℕ) = fun _ => 0 := by funext a; fin_cases a <;> rfl

/-- The buffer of `M` on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body, from its five staging buffers whole: it leaves the four operands' as they were and the result's at the dense layer
    of the operands. -/
theorem wp_body (c : Dev nD) (f0 : Vec F S16384x13 .f32) (f1 : Vec F S13x16 .f32) (f2 f3 : Vec F S1x16 .f32) (f4 : Vec F S16384x16 .f32) :
    iprop((pt c (stage0_0 0) f0) ∗ (pt c (stage0_1 0) f1)
        ∗ (pt c (stage0_2 0) f2) ∗ (pt c (stage0_3 0) f3)
        ∗ (pt c (stage0_4 0) f4))
      ⊢ wp frame (wpE (defs₀ (F := F)) 𝒱₀ (c : Thread nD τ) none) Set.univ
          (cc0__dense_body (F := F) (stage0_0 0) (hstage0_0 0) (stage0_1 0) (hstage0_1 0) (stage0_2 0) (hstage0_2 0)
            (stage0_3 0) (hstage0_3 0) (stage0_4 0) (hstage0_4 0)) fun _ =>
        (iprop((pt c (stage0_0 0) f0) ∗ (pt c (stage0_1 0) f1)
          ∗ (pt c (stage0_2 0) f2) ∗ (pt c (stage0_3 0) f3)
          ∗ (pt c (stage0_4 0) (k0_pay1 f0 f1 f2 f3))) : sProp 𝕄) := by
  rw [cc0__dense_body_eq_skeleton]
  unfold cc0__dense_body_skel
  iintro ⟨H0, H1, H2, H3, H4⟩
  sl_exec!
  sl_step
  isplitl [H0]; · iexact H0
  isplitl [H1]; · iexact H1
  isplitl [H2]; · iexact H2
  isplitl [H3]; · iexact H3
  have hw : (stage0_4 0).view.writes (Elt F) (stage0_4 0).view.junk (wp_body.sl.H4_1 f0 f1 f2 f3) = k0_pay1 f0 f1 f2 f3 := by
    unfold wp_body.sl.H4_1
    have e0 := Memref.readAt_unit_zero (Elt F) cc0_stg0_0 zeros2 inb_S16384x13_S16384x13_0_0 f0
    have e1 := Memref.readAt_unit_zero (Elt F) cc0_stg1_0 zeros2 inb_S13x16_S13x16_0_0 f1
    have e2 := Memref.readAt_unit_zero (Elt F) cc0_stg2_0 zeros2 inb_S1x16_S1x16_0_0 f2
    have e3 := Memref.readAt_unit_zero (Elt F) cc0_stg3_0 zeros2 inb_S1x16_S1x16_0_0 f3
    refine (Memref.write_access_unit_zero_univ (Elt F) cc0_stg4_0 zeros2 inb_S16384x16_S16384x16_0_0 _ _).trans ?_
    exact congr (congr (congr (congrArg (k0_pay1 (F := F)) e0) e1) e2) e3
  rw [hw]
  iexact H4

/-! ## The proof data, at an entry valuation -/

/-- A block read of a window over a whole array is the array. -/
theorem blk_read0 (f : Vec F S16384x13 .f32) : ((cfg0.win 0).blk t0_0).view.read (Elt F) f = f := by
  funext x; exact congrArg f (by funext a; apply Fin.ext; exact Window.rect_emb_val_of_index_zero (cfg0.win 0) t0_0 a rfl x)
/-- The one block of the transposed weights is all of them. -/
theorem blk_read1 (f : Vec F S13x16 .f32) : ((cfg0.win 1).blk t0_0).view.read (Elt F) f = f := by
  funext x; exact congrArg f (by funext a; apply Fin.ext; exact Window.rect_emb_val_of_index_zero (cfg0.win 1) t0_0 a rfl x)
/-- The one block of the dense bias is all of it. -/
theorem blk_read2 (f : Vec F S1x16 .f32) : ((cfg0.win 2).blk t0_0).view.read (Elt F) f = f := by
  funext x; exact congrArg f (by funext a; apply Fin.ext; exact Window.rect_emb_val_of_index_zero (cfg0.win 2) t0_0 a rfl x)
/-- The one block of the sparse bias is all of it. -/
theorem blk_read3 (f : Vec F S1x16 .f32) : ((cfg0.win 3).blk t0_0).view.read (Elt F) f = f := by
  funext x; exact congrArg f (by funext a; apply Fin.ext; exact Window.rect_emb_val_of_index_zero (cfg0.win 3) t0_0 a rfl x)

variable (V : (c : Dev nD) → (b : Ref sig .tc) → Buf (Elt F) ((c : Thread nD τ).loc b)) (b : ℕ)

/-- What the layer leaves in the result's array. -/
def dense (c : Dev nD) : Vec F S16384x16 .f32 := k0_pay1 (V c main_arg0) (V c main_v0) (V c main_v1) (V c main_arg5)

/-- What lies between the region's ends beside the windows: the scoped buffers the pipeline does not stage. -/
abbrev Φc (c : Dev nD) : sProp 𝕄 := Pipeline.scopedRest (Ix := HIx 1) (Name := ℕ) (U := UU) (Lvl := ℕ) (Val := Elt F) spec0 c

/-- The proof data: the arrays at `V`; after the body the operands' buffers as fetched and the result's at the dense layer; owing,
    throughout, the start signals of the SparseCore call to come, and having waited at no level above `b`. -/
def dat (c : Dev nD) : Dat τ (Elt F) (HIx 1) ℕ UU ℕ cfg0 c where
  A w := V c (Pipeline.arrRef spec0 w)
  after w _ := match w with
    | ⟨0, _⟩ => V c main_arg0
    | ⟨1, _⟩ => V c main_v0
    | ⟨2, _⟩ => V c main_v1
    | ⟨3, _⟩ => V c main_arg5
    | ⟨4, _⟩ => dense V c
  Φ _ := Φc c
  q _ := fullShare
  owed _ := (K (F := F)).Otc c 0
  recorded _ := {p | (K (F := F)).lev (SparseCore.T c, p.1) p.2 ≤ b}

/-- The dense call's pipeline is one that the pipeline's rules admit. -/
abbrev adm : (p : Fin 1) → (pcfgs (F := F) p).Adm := fun p => (cfgs p).toPCfg_adm

/-- The program's one pipeline's. -/
def pdats : (p : Fin 1) → (c : Dev nD) → Dat τ (Elt F) (HIx 1) ℕ UU ℕ (Pipeline.pin (pcfgs (F := F)) adm p) c
  | ⟨0, _⟩ => fun c => dat V b c

/-- The pipeline's own waits are at no stage of a call. -/
abbrev ι : HIx 1 := none

/-- Before the body, the first window holds the dense features, -/
theorem before0 (c : Dev nD) (d : (cfg0.win 0).block.Idx → Elt F (cfg0.win 0).elt) : (dat V b c).before 0 t0_0 d = V c main_arg0 := by
  unfold Dat.before; rw [if_pos (by decide)]; exact blk_read0 (F := F) _
/-- the second the transposed weights, -/
theorem before1 (c : Dev nD) (d : (cfg0.win 1).block.Idx → Elt F (cfg0.win 1).elt) : (dat V b c).before 1 t0_0 d = V c main_v0 := by
  unfold Dat.before; rw [if_pos (by decide)]; exact blk_read1 (F := F) _
/-- the third the dense bias, -/
theorem before2 (c : Dev nD) (d : (cfg0.win 2).block.Idx → Elt F (cfg0.win 2).elt) : (dat V b c).before 2 t0_0 d = V c main_v1 := by
  unfold Dat.before; rw [if_pos (by decide)]; exact blk_read2 (F := F) _
/-- the fourth the sparse bias. -/
theorem before3 (c : Dev nD) (d : (cfg0.win 3).block.Idx → Elt F (cfg0.win 3).elt) : (dat V b c).before 3 t0_0 d = V c main_arg5 := by
  unfold Dat.before; rw [if_pos (by decide)]; exact blk_read3 (F := F) _

/-- The body takes the four windows to the dense rows. -/
theorem body_obligation (c : Dev nD) : BodyObligation (dat V b c) (defs₀ (F := F)) 𝒱₀ ι Set.univ := fun t => by
  obtain rfl := fin_N0 t
  rw [bigSep_W0, bigSep_W0]
  simp only [owns_whole_eq]
  rw [show (dat V b c).Φ t0_0.castSucc = Φc c from rfl, show (dat V b c).Φ t0_0.succ = Φc c from rfl,
    show (dat V b c).owesAt ι t0_0.succ = (dat V b c).owesAt ι t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0] at hf0
  rw [before1] at hf1
  rw [before2] at hf2
  rw [before3] at hf3
  subst hf0 hf1 hf2 hf3
  have hrun := wp_body (F := F) c (V c main_arg0) (V c main_v0) (V c main_v1) (V c main_arg5) f4
  iapply wp_wand $$ [H0 H1 H2 H3 H4]
  · iapply hrun
    isplitl [H0]; · iexact H0
    isplitl [H1]; · iexact H1
    isplitl [H2]; · iexact H2
    isplitl [H3]; · iexact H3
    iexact H4
  iintro %_
  iintro ⟨H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; dsimp only [dat]; rfl

/-- The result's array after the region. -/
theorem arrAt_out (c : Dev nD) : (dat V b c).arrAt 4 cfg0.N = dense V c :=
  Dat.arrAt_eq_of_after_last (dat V b c) 4 t0_0 (by decide +kernel) _ fun j => rfl

/-! ## The region over the core's state -/

-- what the region leaves: the result's array at the dense layer, every other as it was
variable (Vp : (c : Dev nD) → (b : Ref sig .tc) → Buf (Elt F) ((c : Thread nD τ).loc b))

/-- What the core owes the call to come, having waited at no level above `b`. -/
abbrev owesTc (c : Dev nD) : sProp 𝕄 :=
  iprop(∃ W, ⌜(K (F := F)).WBelow (SparseCore.T c) W b⌝ ∗ owes (SparseCore.T c) ((K (F := F)).Otc c 0) W)

omit [FloatOps F] in
/-- The core owes nothing at the pipeline's index. -/
theorem Otc_none (c : Dev nD) (g : GSem nD τ sig) : (K (F := F)).Otc (N := 1) c 0 g none = 0 := by
  by_contra h
  have h' := (K (F := F)).lev_of_Otc_pos (Nat.pos_of_ne_zero h)
  simp at h'

set_option backward.isDefEq.respectTransparency.types false in
/-- The dense layer's region. -/
def reg (hout : ∀ c, Vp c main_v2 = dense V c) (hne : ∀ c (r : Ref sig .tc), r ≠ main_v2 → Vp c r = V c r) :
    Pipeline.RegionSeg (pcfgs (F := F)) adm (pdats V b) ι defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V b c).loose
  hwaits c := Pipeline.cellsWaits_of_cut (Pipeline.pin (pcfgs (F := F)) adm) (pdats V b) ι 0 c 0 ((K (F := F)).Otc c 0) (fun _ => rfl)
    (fun _ _ => Finset.mem_univ _) (fun _ _ => le_rfl) fun g i hg => ⟨Finset.mem_univ _, by
      match i with
      | none => rw [Otc_none] at hg; exact absurd hg (lt_irrefl 0)
      | some q => exact (K (F := F)).lev_some_pos g q⟩
  pre c := iprop(unscopedBufs c (V c) ∗ owesTc b c)
  post c := iprop(unscopedBufs c (Vp c) ∗ owesTc b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V b) (launch0).win (launch0).arr_whole c
      ((pdats V b 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V b 0 c).Φ 0 = Φc c from rfl]
    iintro ⟨-, -, Hr⟩; iexact Hr
  hout c := by
    rw [Pipeline.ownSems0_none, show (pdats V b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V b) ((pdats V b 0 c).share_full fun _ => rfl) (V c) (Vp c) ((pdats V b 0 c).arrAt · cfg0.N)
      (fun w => by
        fin_cases w
        · exact ((pdats V b 0 c).arrAt_in 0 rfl _).trans (hne c main_arg0 (by decide)).symm
        · exact ((pdats V b 0 c).arrAt_in 1 rfl _).trans (hne c main_v0 (by decide)).symm
        · exact ((pdats V b 0 c).arrAt_in 2 rfl _).trans (hne c main_v1 (by decide)).symm
        · exact ((pdats V b 0 c).arrAt_in 3 rfl _).trans (hne c main_arg5 (by decide)).symm
        · exact (arrAt_out V b c).trans (hout c).symm)
      (fun r hr => hne c r fun h => hr (h ▸ Finset.mem_image.mpr ⟨4, Finset.mem_univ _, rfl⟩))
    iintro ⟨Ha, ⟨%W, %hW, HO⟩, -, Hrest⟩
    imodintro
    isplitl [Ha Hrest]
    · iapply hjoin; isplitl [Ha] <;> iassumption
    iexists W
    isplitr
    · ipureintro
      intro p hp
      rcases hW hp with h | ⟨w, s, rfl⟩
      · exact h
      · exact Nat.zero_le _
    iexact HO

/-- The ghost state the launch deals core `c` for the pipeline. -/
abbrev ghost (c : Dev nD) : sProp 𝕄 :=
  iprop(Pipeline.cellsGhost (Pipeline.pin (pcfgs (F := F)) adm) EP 0 c ∗ Pipeline.toksInit (Pipeline.pin (pcfgs (F := F)) adm) EP 0 c)

instance : (EP (F := F)).LandsIn (upEmb : UEmb _ 𝕄) := by unfold EP; infer_instance

/-- The dense layer, called from the whole program: from the arrays at `V` to the arrays at `Vp`. -/
theorem wp_dense [∀ e, Nonempty (Elt F e)] (hout : ∀ c, Vp c main_v2 = dense V c) (hne : ∀ c (r : Ref sig .tc), r ≠ main_v2 → Vp c r = V c r)
    (c : Dev nD) :
    iprop(boundary (SparseCore.T c) ∗ (unscopedBufs c (V c) ∗ owesTc b c) ∗ levAts (K (F := F)).L (K (F := F)).lev ∗ ghost c)
      ⊢ wp frame (wpE ((K (F := F)).defs (D (F := F))) 𝒱 (SparseCore.T c) none) Set.univ
          (Prog.lift (.customCall (SparseCore.inner (Pipeline.entry 0)) ())) fun _ =>
        (iprop(boundary (SparseCore.T c) ∗ unscopedBufs c (Vp c) ∗ owesTc b c) : sProp 𝕄) := by
  have h := Pipeline.RegionSeg.wp (pcfgs (F := F)) adm (pdats V b) ι cellOf_inj EP (defs₀ (F := F)) 𝒱₀ (K (F := F)).L (K (F := F)).lev
    (reg V b Vp hout hne) c none (fun _ h => nomatch h) (fun _ => .ret PUnit.unit) fun _ => iprop(boundary (SparseCore.T c) ∗ unscopedBufs c (Vp c) ∗ owesTc b c)
  have hl := (K (F := F)).wp_liftProg (D (F := F)) 𝒱 (SparseCore.T c) Set.univ none (.op (.customCall (Pipeline.entry 0) ()) fun _ => .ret PUnit.unit)
    fun _ => (iprop(boundary (SparseCore.T c) ∗ unscopedBufs c (Vp c) ∗ owesTc b c) : sProp 𝕄)
  refine BIBase.Entails.trans ?_ (h.trans hl)
  show iprop(_) ⊢ iprop((iprop(boundary (c.tc : Thread nD τ) ∗ unscopedBufs c (Vp c) ∗ owesTc b c) -∗ _)
      ∗ boundary (c.tc : Thread nD τ) ∗ (unscopedBufs c (V c) ∗ owesTc b c) ∗ _ ∗ _ ∗ _)
  iintro ⟨Hb, Hpre, Hl, Hg, Ht⟩
  isplitr
  · iintro H
    rw [show (Prog.ret PUnit.unit : Prog (TpuEff nD τ sig (Elt F) (ΛP (F := F)) .tc) PUnit) = Pure.pure PUnit.unit from rfl, wp_pure]
    imodintro
    iexact H
  isplitl [Hb]; · iexact Hb
  isplitl [Hpre]; · iexact Hpre
  isplitl [Hl]; · iexact Hl
  isplitl [Hg]; · iexact Hg
  iexact Ht

end Cert.Proof.Dense
-- ==== Proof.Host.lean ====
/-
  The TensorCore's arrays through @main: the transposed weights and the bias as a row, the dense layer's rows, the ids flat.
-/
module

public import proofs.«01_k».proof.Proof.Deal
public import proofs.«01_k».proof.Proof.Dense
public import Idealize.ShloMosaic.Lib.Pipeline.Frame

@[expose] public section

noncomputable section

namespace Cert.Proof.Host

open Cert.KernelIdeal Cert.KernelIdeal.Gen Cert.Proof.Setup Cert.Proof.Deal
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The three operations @main runs itself. -/
abbrev opT : HloOp τ sig (Elt F) :=
  StableHlo.unary main_arg2 main_v0 ((transpose S13x16 [1, 0] · transposes_S16x13_S13x16_1_0) : (⟨S16x13, .f32⟩ : BufTy).Contents (Elt F) → (⟨S13x16, .f32⟩ : BufTy).Contents (Elt F))
/-- The dense bias as one row. -/
abbrev opB : HloOp τ sig (Elt F) := StableHlo.reshape main_arg3 main_v1 (rfl : (.f32 : EltTy) = .f32) shapeCasts_S16_S1x16
/-- The ids laid out flat. -/
abbrev opI : HloOp τ sig (Elt F) := StableHlo.reshape main_arg1 main_v3 (rfl : (.i32 : EltTy) = .i32) shapeCasts_S16384x26_S425984

variable (m : (ℓ : Loc nD τ sig) → Buf (Elt F) ℓ) (d : Dev nD)

/-- The arrays at launch, after the transpose, after the bias's reshape. -/
def W0 : Valuation τ sig (Elt F) := fun b => m (d, b)
/-- The arrays after the transpose, -/
def W1 : Valuation τ sig (Elt F) := (opT (F := F)).result (W0 m d)
/-- and after the bias's reshape. -/
def W2 : Valuation τ sig (Elt F) := (opB (F := F)).result (W1 m d)

/-- Both operations leave every other array. -/
theorem W2_keep (r : Ref sig .tc) (h0 : r ≠ main_v0) (h1 : r ≠ main_v1) : W2 m d r = m ((SparseCore.T d).loc r) := by
  unfold W2 W1
  rw [StableHlo.reshape_result_ne _ _ _ _ _ _ _ h1, StableHlo.unary_result_ne _ _ _ _ _ _ h0]
  rfl

/-- The transposed weights, -/
theorem W2_v0 : W2 m d main_v0 = transpose S13x16 [1, 0] (m ((SparseCore.T d).loc main_arg2)) transposes_S16x13_S13x16_1_0 := by
  unfold W2 W1
  rw [StableHlo.reshape_result_ne _ _ _ _ _ _ _ (by decide), StableHlo.unary_result]
  rfl

/-- and the bias as one row. -/
theorem W2_v1 : W2 m d main_v1 = shapeCast S1x16 (m ((SparseCore.T d).loc main_arg3)) shapeCasts_S16_S1x16 := by
  unfold W2
  rw [StableHlo.reshape_result]
  funext i
  have h : W1 m d main_arg3 = m ((SparseCore.T d).loc main_arg3) := by
    unfold W1
    rw [StableHlo.unary_result_ne _ _ _ _ _ _ (by decide)]
    rfl
  show shapeCast S1x16 (W1 m d main_arg3) shapeCasts_S16_S1x16 i = _
  rw [h]

variable [FloatOps F]

/-- After the dense layer, after the ids' reshape. -/
def W3 : Valuation τ sig (Elt F) := Function.update (W2 m d) (Proc.devRef .tc main_v2) (denseV m d)
/-- The arrays after the ids' reshape. -/
def W4 : Valuation τ sig (Elt F) := (opI (F := F)).result (W3 m d)

/-- The dense layer on the arrays it finds. -/
theorem dense_eq : Dense.dense (fun c (b : Ref sig .tc) => W2 m c b) d = denseV m d := by
  show k0_pay1 (W2 m d main_arg0) (W2 m d main_v0) (W2 m d main_v1) (W2 m d main_arg5) = denseV m d
  rw [W2_v0, W2_v1, W2_keep m d main_arg0 (by decide) (by decide), W2_keep m d main_arg5 (by decide) (by decide)]
  rfl

/-- The dense call leaves the dense rows, -/
theorem W3_v2 : W3 m d main_v2 = denseV m d := Function.update_self _ _ _

/-- and every other array as it was. -/
theorem W3_ne (r : Ref sig .tc) (h : r ≠ main_v2) : W3 m d r = W2 m d r :=
  Function.update_of_ne (StableHlo.devRef_ne_of_ne h) _ _

/-- The host's operations and the dense call leave every array that is none of their four results. -/
theorem W4_keep (r : Ref sig .tc) (h0 : r ≠ main_v0) (h1 : r ≠ main_v1) (h2 : r ≠ main_v2) (h3 : r ≠ main_v3) :
    W4 m d r = m ((SparseCore.T d).loc r) := by
  unfold W4
  rw [StableHlo.reshape_result_ne _ _ _ _ _ _ _ h3, W3_ne m d r h2, W2_keep m d r h0 h1]

/-- At the SparseCore call the dense rows stand, -/
theorem W4_v2 : W4 m d main_v2 = denseV m d := by
  unfold W4
  rw [StableHlo.reshape_result_ne _ _ _ _ _ _ _ (by decide), W3_v2]

/-- and the flat ids. -/
theorem W4_v3 : W4 m d main_v3 = idsV m d := by
  unfold W4
  rw [StableHlo.reshape_result]
  funext i
  show shapeCast S425984 (W3 m d main_arg1) shapeCasts_S16384x26_S425984 i = _
  rw [W3_ne m d main_arg1 (by decide), W2_keep m d main_arg1 (by decide) (by decide)]
  rfl

omit m [FloatOps F] in
/-- The TensorCore's arrays, one by one. -/
theorem unscopedBufs_eq (W : (b : Ref sig .tc) → Buf (Elt F) ((d.tc : Thread nD τ).loc b)) :
    (unscopedBufs d W : sProp 𝕄)
      = iprop(((d.tc : Thread nD τ).loc main_arg0 ↦{fullShare} W main_arg0) ∗ ((d.tc : Thread nD τ).loc main_arg1 ↦{fullShare} W main_arg1)
        ∗ ((d.tc : Thread nD τ).loc main_arg2 ↦{fullShare} W main_arg2) ∗ ((d.tc : Thread nD τ).loc main_arg3 ↦{fullShare} W main_arg3)
        ∗ ((d.tc : Thread nD τ).loc main_arg5 ↦{fullShare} W main_arg5) ∗ (idLoc d ↦{fullShare} W main_v3) ∗ (dnLoc d ↦{fullShare} W main_v2)
        ∗ (tbLoc d ↦{fullShare} W main_arg4) ∗ (outLoc d ↦{fullShare} W main_v4)
        ∗ ((d.tc : Thread nD τ).loc main_v0 ↦{fullShare} W main_v0) ∗ ((d.tc : Thread nD τ).loc main_v1 ↦{fullShare} W main_v1)) := by
  unfold unscopedBufs
  rw [show (Finset.univ.filter fun b : Ref sig .tc => ¬ b.isScoped)
      = {main_arg0, main_arg1, main_arg2, main_arg3, main_arg5, main_v3, main_v2, main_arg4, main_v4, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), BI.bigSep_singleton]

/-- The arrays a core keeps aside during the SparseCore call, all but two of them arguments as launched. -/
abbrev aside : sProp 𝕄 :=
  iprop(((d.tc : Thread nD τ).loc main_arg0 ↦{fullShare} m ((d.tc : Thread nD τ).loc main_arg0)) ∗ ((d.tc : Thread nD τ).loc main_arg1 ↦{fullShare} m ((d.tc : Thread nD τ).loc main_arg1))
    ∗ ((d.tc : Thread nD τ).loc main_arg2 ↦{fullShare} m ((d.tc : Thread nD τ).loc main_arg2)) ∗ ((d.tc : Thread nD τ).loc main_arg3 ↦{fullShare} m ((d.tc : Thread nD τ).loc main_arg3))
    ∗ ((d.tc : Thread nD τ).loc main_arg5 ↦{fullShare} m ((d.tc : Thread nD τ).loc main_arg5)))

/-- Before the SparseCore call: the kept arguments, the call's operands and the result's array. -/
theorem before_call :
    (unscopedBufs d (fun b => W4 m d b) : sProp 𝕄)
      ⊢ iprop(aside m d ∗ (idLoc d ↦{fullShare} idsV m d) ∗ (dnLoc d ↦{fullShare} denseV m d) ∗ (tbLoc d ↦{fullShare} m (tbLoc d))
        ∗ outLoc d ↦{fullShare} m (outLoc d)) := by
  rw [unscopedBufs_eq, W4_v2, W4_v3, W4_keep m d main_arg0 (by decide) (by decide) (by decide) (by decide),
    W4_keep m d main_arg1 (by decide) (by decide) (by decide) (by decide), W4_keep m d main_arg2 (by decide) (by decide) (by decide) (by decide),
    W4_keep m d main_arg3 (by decide) (by decide) (by decide) (by decide), W4_keep m d main_arg4 (by decide) (by decide) (by decide) (by decide),
    W4_keep m d main_arg5 (by decide) (by decide) (by decide) (by decide), W4_keep m d main_v4 (by decide) (by decide) (by decide) (by decide)]
  iintro ⟨H0, H1, H2, H3, H5, Hi, Hd, Ht, Ho, -, -⟩
  isplitl [H0 H1 H2 H3 H5]
  · isplitl [H0]; · iexact H0
    isplitl [H1]; · iexact H1
    isplitl [H2]; · iexact H2
    isplitl [H3]; · iexact H3
    iexact H5
  isplitl [Hi]; · iexact Hi
  isplitl [Hd]; · iexact Hd
  isplitl [Ht]; · iexact Ht
  iexact Ho

end Cert.Proof.Host
-- ==== Proof.Launch.lean ====
/-
  The whole program's run: the launch deals its ghost state, the TensorCore runs @main around the SparseCore call, and every
  result follows.
-/
module

public import proofs.«01_k».proof.Proof.Host
public import Idealize.ShloMosaic.Lib.Pipeline.Sound

@[expose] public section

noncomputable section

namespace Cert.Proof.Launch

open Cert.KernelIdeal Cert.KernelIdeal.Gen Cert.Proof.Setup Cert.Proof.Deal Cert.Proof.Host
open Idealize.ShloMosaic Idealize.ShloMosaic.TcCoe
open Idealize.ShloMosaic.Pipeline (ucRefs unscopedBufs_held)
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The handshakes' rounds and the dense pipeline's staging cells. -/
def u₀ : UU :=
  (initOf (K (F := F)).hsCells (K (F := F)).hsToks,
    (initOf (Pipeline.cells (Pipeline.pin (pcfgs (F := F)) Dense.adm) cellOf_inj) (Pipeline.launchToks (Pipeline.pin (pcfgs (F := F)) Dense.adm) cellOf_inj), 1))

omit [FloatOps F] in
/-- A product of nothings is nothing. -/
theorem bigSep_none {I : Type} (s : Finset I) : (bigSep s fun _ => iprop(emp)) = (iprop(emp) : sProp 𝕄) := bigSep_emp_const s

omit [FloatOps F] in
/-- The program has one pipeline. -/
theorem ghost_one (Φ : Fin 1 → Dev nD → sProp 𝕄) :
    (bigSep Finset.univ fun c : Dev nD => bigSep Finset.univ fun p : Fin 1 => Φ p c) = bigSep Finset.univ fun c : Dev nD => Φ 0 c :=
  BI.bigSep_congr fun _ _ => bigSep_univ_of_subsingleton (0 : Fin 1)

/-- The first resources hold the calls' handshakes and the dense pipeline's ghosts. -/
theorem hu₀ : (ownU (u₀ (F := F)) : sProp 𝕄)
    ⊢ |={Set.univ}=> iprop(BI.own (EH (initOf (K (F := F)).hsCells (K (F := F)).hsToks)) ∗ (bigSep Finset.univ fun d : Dev nD => Dense.ghost d)
        ∗ bigSep Finset.univ fun thr : Thread nD τ => bigSep Finset.univ fun q : Fin 1 => (P m).x q thr) := by
  have hg := Pipeline.fund_ghost (Pipeline.pin (pcfgs (F := F)) Dense.adm) (EP (F := F)) cellOf_inj
  unfold u₀
  iintro Hu
  ihave H := (ownU_pair (initOf (K (F := F)).hsCells (K (F := F)).hsToks)
    ((initOf (Pipeline.cells (Pipeline.pin (pcfgs (F := F)) Dense.adm) cellOf_inj) (Pipeline.launchToks (Pipeline.pin (pcfgs (F := F)) Dense.adm) cellOf_inj), 1) : UP × Counters)) $$ Hu
  icases H with ⟨HH, HR⟩
  ihave H := (own_pair_emb (embR : Emb (UP × Counters) 𝕄)
    (initOf (Pipeline.cells (Pipeline.pin (pcfgs (F := F)) Dense.adm) cellOf_inj) (Pipeline.launchToks (Pipeline.pin (pcfgs (F := F)) Dense.adm) cellOf_inj)) (1 : Counters)) $$ HR
  icases H with ⟨HP, -⟩
  imod hg $$ HP with ⟨Hc, Ht⟩
  imodintro
  isplitl [HH]; · iexact HH
  isplitl [Hc Ht]
  · ihave Hc := (Entails.of_eq (ghost_one fun p c => Pipeline.cellsGhost (Pipeline.pin (pcfgs (F := F)) Dense.adm) EP p c)) $$ Hc
    ihave Ht := (Entails.of_eq (ghost_one fun p c => Pipeline.toksInit (Pipeline.pin (pcfgs (F := F)) Dense.adm) EP p c)) $$ Ht
    unfold Dense.ghost
    rw [bigSep_sep']
    isplitl [Hc]; · iexact Hc
    iexact Ht
  rw [show (bigSep Finset.univ fun thr : Thread nD τ => bigSep Finset.univ fun q : Fin 1 => (P (F := F) m).x q thr) = bigSep Finset.univ fun _ => iprop(emp) from
    BI.bigSep_congr fun _ _ => bigSep_univ_of_subsingleton (0 : Fin 1), bigSep_none]
  iempintro

/-! ## @main on the TensorCore -/

/-- What a core has at the end: its arguments as launched and the result. -/
abbrev FIN (d : Dev nD) : sProp 𝕄 := iprop(aside m d ∗ (tbLoc d ↦{fullShare} m (tbLoc d)) ∗ outLoc d ↦{fullShare} resV m d)

/-- Two arrays that outlive the calls are among those that do. -/
theorem sub_uc {x y : Ref sig .tc} (hx : (Proc.devRef (τ := τ) .tc x).isScoped = false) (hy : (Proc.devRef (τ := τ) .tc y).isScoped = false) :
    ({Proc.devRef .tc x, Proc.devRef .tc y} : Finset (DevRef τ sig)) ⊆ ucRefs τ sig := by
  intro b hb
  rcases Finset.mem_insert.mp hb with rfl | hb
  · exact Finset.mem_filter.mpr ⟨StableHlo.devRef_mem_tcRefs x, by rw [hx]; decide⟩
  · rw [Finset.mem_singleton.mp hb]
    exact Finset.mem_filter.mpr ⟨StableHlo.devRef_mem_tcRefs y, by rw [hy]; decide⟩

/-- One of @main's own operations, over the core's arrays. -/
theorem wp_host (d : Dev nD) (op : HloOp τ sig (Elt F)) (hS : op.bufs ⊆ ucRefs τ sig) (hf : op.fresh = ∅) (W : Valuation τ sig (Elt F)) :
    (iprop(boundary (SparseCore.T d) ∗ unscopedBufs d (fun b => W b)) : sProp 𝕄)
      ⊢ wp frame (wpE ((K (F := F)).defs (D (F := F))) 𝒱 (SparseCore.T d) none) Set.univ (hlo rfl op (fun _ => .ret PUnit.unit))
          fun _ => iprop(boundary (SparseCore.T d) ∗ unscopedBufs d (fun b => op.result W b)) := by
  rw [unscopedBufs_held, unscopedBufs_held]
  iintro H
  have h := StableHlo.wp_hlo_within (defs := (K (F := F)).defs (D (F := F))) 𝒱 (SparseCore.T d) none Set.univ (hp := rfl) (op := op)
    (k := fun _ => (.ret PUnit.unit : Prog (TpuEff nD τ sig (Elt F) (SparseCore.Sig (ΛP (F := F)) 1) .tc) PUnit)) hS (V := W)
    (Q := fun _ => (iprop(boundary (SparseCore.T d) ∗ StableHlo.held (d.tc : Thread nD τ) (ucRefs τ sig) (op.result W)) : sProp 𝕄)) hf
  iapply h $$ H
  iintro H
  rw [wp_ret]
  imodintro
  iexact H

omit [FloatOps F] in
/-- What a core owes the call to come, out of its state before the call. -/
theorem tcSt_eq (d : Dev nD) : ∃ (b : ℕ) (R : sProp 𝕄), ((K (F := F)).tcSt EH d 0 : sProp 𝕄) = iprop(Dense.owesTc b d ∗ R) := ⟨_, _, rfl⟩

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Dense.ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b, R, hst⟩ := tcSt_eq (F := F) d
  have hT := wp_host d (opT (F := F)) (sub_uc rfl rfl) rfl (W0 m d)
  have hB := wp_host d (opB (F := F)) (sub_uc rfl rfl) rfl (W1 m d)
  have hI := wp_host d (opI (F := F)) (sub_uc rfl rfl) rfl (W3 m d)
  have hD := Dense.wp_dense (fun c (b : Ref sig .tc) => W2 m c b) b (fun c (b : Ref sig .tc) => W3 m c b)
    (fun c => (W3_v2 m c).trans (dense_eq m c).symm) (fun c r h => W3_ne m c r h) d
  unfold SparseCore.Cfg.tcRes SparseCore.Cfg.tcEnd
  simp only [main, wp_bind, wp_pure]
  iintro ⟨#Hctx, Hst, ⟨Hb, Hbufs, Hts, -⟩, HG⟩
  ihave Hst := (Entails.of_eq hst) $$ Hst
  icases Hst with ⟨HO, HR⟩
  ihave #Hlv := ((K (F := F)).ctx_levAts κ) $$ Hctx
  iapply wp_wand $$ [Hb Hbufs]
  · iapply hT
    isplitl [Hb]; · iexact Hb
    iexact Hbufs
  iintro %_ ⟨Hb, Hbufs⟩
  iapply wp_wand $$ [Hb Hbufs]
  · iapply hB
    isplitl [Hb]; · iexact Hb
    iexact Hbufs
  iintro %_ ⟨Hb, Hbufs⟩
  iapply wp_wand $$ [Hb Hbufs HO HG]
  · iapply hD
    isplitl [Hb]; · iexact Hb
    isplitl [Hbufs HO]
    · isplitl [Hbufs]; · iexact Hbufs
      iexact HO
    isplitr; · iexact Hlv
    iexact HG
  iintro %_ ⟨Hb, Hbufs, HO⟩
  iapply wp_wand $$ [Hb Hbufs]
  · iapply hI
    isplitl [Hb]; · iexact Hb
    iexact Hbufs
  iintro %_ ⟨Hb, Hbufs⟩
  ihave H := (show (unscopedBufs d (fun b => (opI (F := F)).result (W3 m d) b) : sProp 𝕄) ⊢ _ from before_call m d) $$ Hbufs
  icases H with ⟨Ha, Hi, Hd, Ht, Ho⟩
  ihave Hst := (Entails.of_eq hst.symm) $$ [HO HR]
  · isplitl [HO] <;> iassumption
  iapply ((K (F := F)).wp_run (D (F := F)) 𝒱 (EH := EH) (P := P m) κ d 0) $$ [Hst Hi Hd Ht Ho Ha Hb Hts]
  isplitr; · iexact Hctx
  isplitl [Hst]; · iexact Hst
  isplitl [Hi Hd Ht Ho]
  · rw [st_eq]
    isplitl [Hi]; · iexact Hi
    isplitl [Hd]; · iexact Hd
    isplitl [Ht]; · iexact Ht
    iexact Ho
  iintro ⟨Hst, Hdn⟩
  ihave Hdn := (Entails.of_eq (dn_eq m d)) $$ Hdn
  icases Hdn with ⟨-, -, Ht, Ho⟩
  imodintro
  isplitl [Hst]; · iexact Hst
  isplitl [Ha Ht Ho]
  · isplitl [Ha]; · iexact Ha
    isplitl [Ht]; · iexact Ht
    iexact Ho
  isplitl [Hb] <;> iassumption

/-! ## The end of the run -/

/-- What the final memory holds of device `d`: the arguments as launched and the result. -/
def fq (d : Dev nD) (s' : Phys nD τ sig (Elt F)) : Prop :=
  (s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5))
  ∧ s'.mem.mem (outLoc d) = resV m d

omit [FloatOps F] in
/-- An array held whole holds what the memory does. -/
theorem agree (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What the run leaves says what the final memory holds. -/
theorem hfin (d : Dev nD) (s' : Phys nD τ sig (Elt F)) : iprop(FIN m d ∗ SI s') ⊢ (⌜fq m d s'⌝ : sProp 𝕄) := by
  iintro ⟨⟨⟨H0, H1, H2, H3, H5⟩, H4, Ho⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, HSI⟩
  ihave H := (agree s' _ _) $$ [H3 HSI]
  · isplitl [H3] <;> iassumption
  icases H with ⟨%h3, HSI⟩
  ihave H := (agree s' _ _) $$ [H5 HSI]
  · isplitl [H5] <;> iassumption
  icases H with ⟨%h5, HSI⟩
  ihave H := (agree s' _ _) $$ [H4 HSI]
  · isplitl [H4] <;> iassumption
  icases H with ⟨%h4, HSI⟩
  ihave H := (agree s' _ _) $$ [Ho HSI]
  · isplitl [Ho] <;> iassumption
  icases H with ⟨%ho, -⟩
  ipureintro
  exact ⟨⟨h0, h1, h2, h3, h4, h5⟩, ho⟩

/-- What every run ends with: the arguments as launched, the result, every semaphore at zero. -/
def QC : PUnit × MemSt nD τ sig (Elt F) → Prop := fun r =>
  (∀ c : Dev nD, (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.mem (outLoc c) = resV m c) ∧ r.2.sem = fun _ => 0

/-- THE PROGRAM'S RUN: on ids that are rows of their field's part of the table, every run ends, with the arguments as launched, the
    result's array at `resV` and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main Dense.ghost (FIN m) (u₀ (F := F)) (sep_elim_left.trans (hu₀ m)) (hmain m ρ) (fq m) (hfin m) (QC m) (fun _ h hz => ⟨h, hz⟩)

end Cert.Proof.Launch
-- ==== Proof.Pre.lean ====
/-
  The claims' precondition, read element by element.
-/
module

public import proofs.«01_k».proof.Proof.Launch
public import proofs.«01_k».proof.Proof.Gen.Pre_ids_in_range
public import Idealize.ShloMosaic.Lib.ReduceAll

@[expose] public section

noncomputable section

namespace Cert.Proof.Pre

open Idealize.ShloMosaic

/-- A 32-bit word that is at least 0 and below 100000, read signed, is a number below 100000. -/
theorem word_lt (v : BitVec 32) (h0 : IntOp.cmpi .sge v 0#32 = 1#1) (h1 : IntOp.cmpi .slt v 100000#32 = 1#1) : v.toNat < 100000 := by
  have ofBool_one : ∀ p : Bool, BitVec.ofBool p = 1#1 ↔ p = true := by decide
  simp only [IntOp.cmpi, ofBool_one, BitVec.sle_eq_decide, BitVec.slt_eq_decide, decide_eq_true_eq, BitVec.toInt_eq_toNat_cond,
    BitVec.toNat_ofNat, Nat.reducePow, Nat.reduceMod] at h0 h1
  omega

attribute [local instance] Cert.Pre_ids_in_range.Gen.facts

/-- Under the precondition every id is below 100000. -/
theorem ids_lt {F : FTy → Type} [FloatOps F] (a0 : FVec F Cert.Pre_ids_in_range.S16384x13 .f32) (a1 : IVec Cert.Pre_ids_in_range.S16384x26 32)
    (a2 : FVec F Cert.Pre_ids_in_range.S16x13 .f32) (a3 : FVec F Cert.Pre_ids_in_range.S16 .f32) (a4 : FVec F Cert.Pre_ids_in_range.S2600000x16 .f32)
    (a5 : FVec F Cert.Pre_ids_in_range.S1x16 .f32) (h : Cert.Pre_ids_in_range.fn a0 a1 a2 a3 a4 a5 = fun _ => 1#1)
    (j : Cert.Pre_ids_in_range.S16384x26.Idx) : (a1 j).toNat < 100000 := by
  have : Subsingleton Cert.Pre_ids_in_range.S_.Idx := ⟨fun _ _ => funext fun a => a.elim0⟩
  have e := congrFun h (fun a => a.elim0)
  simp only [Cert.Pre_ids_in_range.fn] at e
  have e := Host.reduce_andi_all _ _ _ _ _ e j
  simp only [andi] at e
  obtain ⟨e0, e1⟩ := IntOp.andi_eq_one.1 e
  exact word_lt _ e0 e1

/-- The kernel's precondition puts the ids in range, -/
theorem ok_bits (m : (ℓ : Loc Cert.KernelIdeal.nD Cert.KernelIdeal.τ Cert.KernelIdeal.sig) → Buf (Elt Bits) ℓ) (h : Cert.Pre_Kernel m) :
    Deal.PreOK (F := Bits) m := fun d j => ids_lt _ _ _ _ _ _ (h d) j

/-- and so does the idealized kernel's. -/
theorem ok_ideal (m : (ℓ : Loc Cert.KernelIdeal.nD Cert.KernelIdeal.τ Cert.KernelIdeal.sig) → Buf (Elt Ideal) ℓ) (h : Cert.Pre_KernelIdeal m) :
    Deal.PreOK (F := Ideal) m := fun d j => ids_lt _ _ _ _ _ _ (h d) j

end Cert.Proof.Pre
-- ==== Proof.RefTake.lean ====
/-
  The reference's lookup: the row numbers it forms from the ids, and the table rows that its bounds-checked take returns. On ids in
  range every row number is a row of the table, so that the check never substitutes its fill value.
-/
module

public import proofs.«01_k».proof.Proof.Gen.ReferenceIdeal.Run
public import proofs.«01_k».proof.Proof.Values
public import Idealize.ShloMosaic.Lib.Pointwise
public import Idealize.ShloMosaic.Lib.ReduceAll
public import Idealize.ShloMosaic.Lib.Affine

@[expose] public section

noncomputable section

namespace Cert.Proof.RefTake

open Cert.ReferenceIdeal Cert.ReferenceIdeal.Gen Cert.Proof.Values
open Idealize.ShloMosaic

variable {F : FTy → Type} [FloatOps F]

/-! ## The row numbers -/

/-- Each id shifted by its field's base. -/
def rowNos (A : IVec S16384x26 32) : IVec S16384x26 32 :=
  addi A (broadcastInDim S16384x26 ![0, 1] bcast_S1x26_S16384x26_0_1 (broadcastInDim S1x26 ![1] bcast_S26_S1x26_1
    (muli (iotaInDim S26 32 0) (broadcastInDim S26 ![] bcast_S_S26 (constantI S_ 32 100000#32)))))

/-- The reference's offsets are the fields' first rows. -/
theorem base_eq : ∀ k : Fin 26, BitVec.ofNat 32 k.val * 100000#32 = fieldBase k.val := by decide

/-- A row number is the id and its field's first row. -/
theorem rowNos_apply (A : IVec S16384x26 32) (r : Fin 16384) (k : Fin 26) : rowNos A (ix2 r k) = A (ix2 r k) + fieldBase k.val := by
  rw [← base_eq]
  pointwise [rowNos]
  rfl

/-- An id below 100000 names a row of the table. -/
theorem row_lt (a : BitVec 32) (h : a.toNat < 100000) (k : Fin 26) : (a + fieldBase k.val).toNat < 2600000 := by
  have hk := k.isLt
  unfold fieldBase
  rw [Nat.mod_eq_of_lt hk, BitVec.toNat_add, BitVec.toNat_ofNat, Nat.mod_eq_of_lt (a := k.val * 100000) (by omega),
    Nat.mod_eq_of_lt (by omega)]
  omega

/-- On ids in range every row number names a row of the table. -/
theorem rowNos_lt (A : IVec S16384x26 32) (hA : ∀ j, (A j).toNat < 100000) (j : S16384x26.Idx) : (rowNos A j).toNat < 2600000 := by
  obtain ⟨r, k, rfl⟩ : ∃ (r : Fin 16384) (k : Fin 26), j = ix2 r k := ⟨j 0, j 1, eq_ix2 j⟩
  rw [rowNos_apply]
  exact row_lt _ (hA _) _

/-- Read signed, a row of the table is its own number. -/
theorem toInt_row {v : BitVec 32} (h : v.toNat < 2600000) : v.toInt = v.toNat := BitVec.toInt_eq_toNat_of_lt (by omega)

/-- The row numbers with a negative one counted from the table's end. -/
def wrapped (R : IVec S16384x26 32) : IVec S16384x26 32 :=
  select (cmpi .slt R (broadcastInDim S16384x26 ![] bcast_S_S16384x26 (constantI S_ 32 0#32)))
    (addi R (broadcastInDim S16384x26 ![] bcast_S_S16384x26 (constantI S_ 32 2600000#32))) R

/-- No row of the table is negative. -/
theorem wrapped_eq (R : IVec S16384x26 32) (hR : ∀ j, (R j).toNat < 2600000) : wrapped R = R := by
  funext j
  have h : ¬IntOp.cmpi .slt (R j) 0#32 = 1#1 := by
    rw [IntOp.cmpi_slt, toInt_row (hR j)]
    simp
  exact congrArg (fun b => Scalar.select b _ (R j)) (ValueIdx.eq_zero_of_ne_one h)

/-! ## The take -/

/-- The row numbers as a list of one-entry start indices. -/
def starts (R : IVec S16384x26 32) : IVec S16384x26x1 32 := broadcastInDim S16384x26x1 ![0, 1] bcast_S16384x26_S16384x26x1_0_1 R

/-- The take's list of rows, read at one entry. -/
theorem starts_apply (R : IVec S16384x26 32) (r : Fin 16384) (k : Fin 26) (u : Fin 1) : starts R (ix3 r k u) = R (ix2 r k) := by
  pointwise [starts]

/-- The check that each start index lies in the table. -/
def inside (R : IVec S16384x26x1 32) : IVec S16384x26 1 :=
  Host.reduce IntOp.andi
    (andi (cmpi .sge R (broadcastInDim S16384x26x1 ![] bcast_S_S16384x26x1 (constantI S_ 32 0#32)))
      (cmpi .sle R (broadcastInDim S16384x26x1 ![0, 1, 2] bcast_S1x1x1_S16384x26x1_0_1_2
        (broadcastInDim S1x1x1 ![2] bcast_S1_S1x1x1_2 (constantI S1 32 2599999#32)))))
    (constantI S_ 1 1#1) reducesTo_S16384x26x1_S16384x26_d2 h_S_

/-- A row number that names a row passes the take's bounds check. -/
theorem inside_eq (R : IVec S16384x26x1 32) (hR : ∀ j, (R j).toNat < 2600000) (j : S16384x26.Idx) : inside R j = 1#1 := by
  refine Host.reduce_andi_one _ _ _ _ _ rfl fun i => ?_
  refine IntOp.andi_eq_one.2 ⟨IntOp.cmpi_sge.2 ?_, IntOp.cmpi_sle.2 ?_⟩
  · show (0#32).toInt ≤ (R i).toInt
    rw [toInt_row (hR i)]
    simp
  · show (R i).toInt ≤ (2599999#32).toInt
    have := hR i
    rw [toInt_row this, show (2599999#32).toInt = 2599999 from by decide]
    omega

/-- The gather's dimension numbers: one start index per result row, the row itself the result's last axis. -/
abbrev G : GatherDims S2600000x16 S16384x26x1 S16384x26x16 := gather_S2600000x16_S16384x26x1_S16384x26x16_2_0_n_n_0_2_116

/-- The operand's row of result word `(r, k, l)` is start index `(r, k)`, -/
theorem row_of (R : IVec S16384x26x1 32) (r : Fin 16384) (k : Fin 26) (l : Fin 16) (h : (R (ix3 r k 0)).toNat < 2600000) :
    (G.operandIdx (ix3 r k l) R 0).val = (R (ix3 r k 0)).toNat := by
  show G.start (ix3 r k l) R 0 + G.batchCoord (ix3 r k l) 0 + G.offCoord (ix3 r k l) 0 = _
  rw [G.batchCoord_eq_zero _ _ List.not_mem_nil, G.offCoord_eq_zero _ _ (fun h => ((G.mem_sKept _).1 h).1 (List.mem_singleton.2 rfl))]
  unfold GatherDims.start
  rw [dif_pos (show (0 : Fin S2600000x16.rank) ∈ G.startIndexMap from List.mem_singleton.2 rfl)]
  have hs : G.siIdx (ix3 r k l) ⟨List.idxOf 0 G.startIndexMap, List.idxOf_lt_length_iff.2 (List.mem_singleton.2 rfl)⟩ = ix3 r k 0 :=
    funext fun b => match b with
      | ⟨0, _⟩ => rfl
      | ⟨1, _⟩ => rfl
      | ⟨2, _⟩ => rfl
  rw [hs, toInt_row h]
  show min (R (ix3 r k 0)).toNat 2599999 + 0 + 0 = _
  omega

/-- and its lane is lane `l`. -/
theorem lane_of (R : IVec S16384x26x1 32) (r : Fin 16384) (k : Fin 26) (l : Fin 16) : (G.operandIdx (ix3 r k l) R 1).val = l.val := by
  show G.start (ix3 r k l) R 1 + G.batchCoord (ix3 r k l) 1 + G.offCoord (ix3 r k l) 1 = _
  have h1 : (1 : Fin S2600000x16.rank) ∉ G.startIndexMap := fun h => absurd (List.mem_singleton.1 h) (by decide)
  have h2 : (1 : Fin S2600000x16.rank) ∈ G.sKept := (G.mem_sKept _).2 ⟨h1, List.not_mem_nil⟩
  unfold GatherDims.start GatherDims.offCoord
  rw [G.batchCoord_eq_zero _ _ List.not_mem_nil, dif_neg h1, dif_pos h2]
  exact Nat.zero_add _

/-- The rows at the start indices. -/
def rowsAt (E : Vec F S2600000x16 .f32) (R : IVec S16384x26x1 32) : Vec F S16384x26x16 .f32 := Host.gather G E R

omit [FloatOps F] in
/-- Result word `(r, k, l)` is lane `l` of the row that start index `(r, k)` names. -/
theorem rowsAt_apply (E : Vec F S2600000x16 .f32) (R : IVec S16384x26x1 32) (r : Fin 16384) (k : Fin 26) (l : Fin 16)
    (h : (R (ix3 r k 0)).toNat < 2600000) : rowsAt E R (ix3 r k l) = E (tblIdx (R (ix3 r k 0)) l) :=
  congrArg E (funext fun a => Fin.ext (match a with
    | ⟨0, _⟩ => (row_of R r k l h).trans (Nat.mod_eq_of_lt h).symm
    | ⟨1, _⟩ => lane_of R r k l))

/-- The take: a row out of the table is filled with a fixed word. -/
def taken (E : Vec F S2600000x16 .f32) (A : IVec S16384x26 32) : Vec F S16384x26x16 .f32 :=
  select (broadcastInDim S16384x26x16 ![0, 1] bcast_S16384x26_S16384x26x16_0_1 (inside (starts (wrapped (rowNos A)))))
    (rowsAt E (starts (wrapped (rowNos A)))) (broadcastInDim S16384x26x16 ![] bcast_S_S16384x26x16 (constant S_ .f32 0x7FC00000#32))

/-- On ids in range the take returns the rows that the ids name, each in its own field's part of the table. -/
theorem taken_apply (E : Vec F S2600000x16 .f32) (A : IVec S16384x26 32) (hA : ∀ j, (A j).toNat < 100000) (r : Fin 16384) (k : Fin 26)
    (l : Fin 16) : taken E A (ix3 r k l) = E (tblIdx (A (ix2 r k) + fieldBase k.val) l) := by
  have hR := rowNos_lt A hA
  have hS : ∀ j, (starts (rowNos A) j).toNat < 2600000 := fun j => hR _
  unfold taken
  rw [wrapped_eq _ hR]
  have hm : broadcastInDim S16384x26x16 ![0, 1] bcast_S16384x26_S16384x26x16_0_1 (inside (starts (rowNos A))) (ix3 r k l) = 1#1 :=
    inside_eq _ hS _
  rw [ValueIdx.select_apply, hm, ValueIdx.select_one, rowsAt_apply E _ r k l (hS _), starts_apply, rowNos_apply]

end Cert.Proof.RefTake

end
-- ==== Proof.RefValue.lean ====
/-
  What the reference computes, over the extended reals, on ids in range: each output word from the ids, the tables and the weights.
-/
module

public import proofs.«01_k».proof.Proof.RefTake

@[expose] public section

noncomputable section

namespace Cert.Proof.RefValue

open Cert.ReferenceIdeal Cert.ReferenceIdeal.Gen Cert.Proof.Values Cert.Proof.RefTake
open Idealize.ShloMosaic

/-! ## The reference as a function of its six arguments -/

/-- The dense layer: `x · Wᵀ + b`. -/
def dense (x : FVec Ideal S16384x13 .f32) (W : FVec Ideal S16x13 .f32) (b : FVec Ideal S16 .f32) : FVec Ideal S16384x16 .f32 :=
  addf (Host.dotGeneral dot_S16384x13_S13x16_S16384x16_1_0_0_1_n_n none x (transpose S13x16 [1, 0] W transposes_S16x13_S13x16_1_0))
    (broadcastInDim S16384x16 ![0, 1] bcast_S1x16_S16384x16_0_1 (broadcastInDim S1x16 ![1] bcast_S16_S1x16_1 b))

/-- The sparse layer: the sum of the 26 rows taken, and the bias. -/
def sparse (T : FVec Ideal S16384x26x16 .f32) (sb : FVec Ideal S1x16 .f32) : FVec Ideal S16384x16 .f32 :=
  addf (Host.reduceAdd T (constant S_ .f32 0x00000000#32) reducesTo_S16384x26x16_S16384x16_d1 h_S_)
    (broadcastInDim S16384x16 ![0, 1] bcast_S1x16_S16384x16_0_1 sb)

/-- The whole: the maximum of their sum with zero. -/
def whole (x : FVec Ideal S16384x13 .f32) (A : IVec S16384x26 32) (W : FVec Ideal S16x13 .f32) (b : FVec Ideal S16 .f32)
    (E : FVec Ideal S2600000x16 .f32) (sb : FVec Ideal S1x16 .f32) : FVec Ideal S16384x16 .f32 :=
  maximumf (addf (dense x W b) (sparse (taken (F := Ideal) E A) sb))
    (broadcastInDim S16384x16 ![] bcast_S_S16384x16 (constant S_ .f32 0x00000000#32))

set_option maxRecDepth 8192 in
open Cert.ReferenceIdeal.Value in
/-- It is what the reference's run leaves. -/
theorem res_eq (m : (ℓ : Loc nD τ sig) → Buf (Elt Ideal) ℓ) (c : Dev nD) :
    res_out0 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-! ## Read at an index -/

/-- A word of the dense part: a row of the features times a row of the weights, and the bias. -/
theorem dense_apply (x : FVec Ideal S16384x13 .f32) (W : FVec Ideal S16x13 .f32) (b : FVec Ideal S16 .f32) (r : Fin 16384) (l : Fin 16) :
    dense x W b (ix2 r l) = (∑ j : Fin 13, x (ix2 r j) * W (ix2 l j) : EReal) + b (ix1 l) := by
  pointwise [dense]

/-- A word of the sparse part: the sum of 26 gathered words, and the bias. -/
theorem sparse_apply (T : FVec Ideal S16384x26x16 .f32) (sb : FVec Ideal S1x16 .f32) (r : Fin 16384) (l : Fin 16) :
    sparse T sb (ix2 r l) = (∑ k : Fin 26, T (ix3 r k l) : EReal) + sb (ix2 0 l) := by
  pointwise [sparse]

/-- The reference's output word of batch row `r` and lane `l`. -/
theorem whole_apply (x : FVec Ideal S16384x13 .f32) (A : IVec S16384x26 32) (hA : ∀ j, (A j).toNat < 100000) (W : FVec Ideal S16x13 .f32)
    (b : FVec Ideal S16 .f32) (E : FVec Ideal S2600000x16 .f32) (sb : FVec Ideal S1x16 .f32) (r : Fin 16384) (l : Fin 16) :
    whole x A W b E sb (ix2 r l)
      = max (((∑ j : Fin 13, x (ix2 r j) * W (ix2 l j) : EReal) + b (ix1 l))
          + ((∑ k : Fin 26, E (tblIdx (A (ix2 r k) + fieldBase k.val) l) : EReal) + sb (ix2 0 l))) 0 := by
  refine (show whole x A W b E sb (ix2 r l) = max ((dense x W b (ix2 r l) + sparse (taken (F := Ideal) E A) sb (ix2 r l) : EReal)) 0 from ?_).trans ?_
  · pointwise [whole]
  · rw [dense_apply, sparse_apply]
    simp only [taken_apply (F := Ideal) E A hA]

end Cert.Proof.RefValue

end
-- ==== Proof.KerValue.lean ====
/-
  What the kernel computes, over the extended reals: the dense rows' words, and a batch row's 27 additions in their order as one sum.
-/
module

public import proofs.«01_k».proof.Proof.Deal
public import Idealize.ShloMosaic.Lib.Pointwise

@[expose] public section

noncomputable section

namespace Cert.Proof.KerValue

open Cert.KernelIdeal Cert.KernelIdeal.Gen Cert.Proof.Values Cert.Proof.Block
open Idealize.ShloMosaic

/-- The dense kernel's word of batch row `r` and lane `l`: a row of `x` times a row of the weights, and both biases. -/
theorem pay1_apply (x : FVec Ideal S16384x13 .f32) (W : FVec Ideal S16x13 .f32) (b : FVec Ideal S16 .f32) (sb : FVec Ideal S1x16 .f32)
    (r : Fin 16384) (l : Fin 16) :
    k0_pay1 (F := Ideal) x (transpose S13x16 [1, 0] W transposes_S16x13_S13x16_1_0) (shapeCast S1x16 b shapeCasts_S16_S1x16) sb (ix2 r l)
      = ((∑ j : Fin 13, x (ix2 r j) * W (ix2 l j) : EReal) + b (ix1 l)) + sb (ix2 0 l) := by
  pointwise [k0_pay1]

/-- A batch row's additions are the sum of the dense word and the 26 gathered words: addition is commutative and associative on all
    the extended reals. -/
theorem rowVal_ideal (d : Ideal .f32) (e : Fin 26 → Ideal .f32) : rowVal (F := Ideal) d e = max ((d : EReal) + ∑ k : Fin 26, (e k : EReal)) 0 := by
  have hz : (Scalar.ofBits .f32 0x00000000#32 : Ideal .f32) = (0 : EReal) := Ideal.ofBits_zero_f32
  unfold rowVal
  rw [hz]
  refine congrArg (fun s : EReal => max s 0) ?_
  simp only [Ideal.addf_def, Fin.sum_univ_succ, Fin.sum_univ_zero]
  abel

/-- Flat position `26 r + k` of the ids is field `k` of batch row `r`. -/
theorem flat_apply {α : Type} (A : S16384x26.Idx → α) (r : Fin 16384) (k : Fin 26) (h : 26 * r.val + k.val < 425984) :
    shapeCast S425984 A shapeCasts_S16384x26_S425984 (ix1 ⟨26 * r.val + k.val, h⟩) = A (ix2 r k) :=
  shapeCast_apply _ _ _ _ (by rw [Shape.rowMajor_val_two, Shape.rowMajor_val_one]; show r.val * 26 + k.val = 26 * r.val + k.val; omega)

/-- The kernel's output word of batch row `r` and lane `l`. -/
theorem outVal_apply (x : FVec Ideal S16384x13 .f32) (A : IVec S16384x26 32) (W : FVec Ideal S16x13 .f32) (b : FVec Ideal S16 .f32)
    (E : FVec Ideal S2600000x16 .f32) (sb : FVec Ideal S1x16 .f32) (r : Fin 16384) (l : Fin 16) :
    outVal (F := Ideal) (shapeCast S425984 A shapeCasts_S16384x26_S425984)
        (k0_pay1 (F := Ideal) x (transpose S13x16 [1, 0] W transposes_S16x13_S13x16_1_0) (shapeCast S1x16 b shapeCasts_S16_S1x16) sb) E (ix2 r l)
      = max ((((∑ j : Fin 13, x (ix2 r j) * W (ix2 l j) : EReal) + b (ix1 l)) + sb (ix2 0 l))
          + ∑ k : Fin 26, (E (tblIdx (A (ix2 r k) + fieldBase k.val) l) : EReal)) 0 := by
  refine (show _ = rowVal (F := Ideal) _ (fun k => E (tblIdx (A (ix2 r k) + fieldBase k.val) l)) from ?_).trans
    ((rowVal_ideal _ _).trans (congrArg (fun s : EReal => max (s + _) 0) (pay1_apply x W b sb r l)))
  refine congrArg (rowVal (F := Ideal) _) (funext fun k => congrArg (fun a => E (tblIdx (a + fieldBase k.val) l)) ?_)
  rw [← ix1_eq_valueIdx]
  exact flat_apply A r k _

end Cert.Proof.KerValue

end
-- ==== Proof.Equation.lean ====
/-
  The equation: on ids in range, the kernel's result is the reference's, word by word, over the extended reals.
-/
module

public import proofs.«01_k».proof.Proof.RefValue
public import proofs.«01_k».proof.Proof.KerValue

@[expose] public section

noncomputable section

namespace Cert.Proof.Equation

open Cert.KernelIdeal Cert.KernelIdeal.Gen Cert.Proof.Values Cert.Proof.Block Cert.Proof.RefValue Cert.Proof.KerValue
open Idealize.ShloMosaic

/-- The two programs' results of six arrays, the ids in range: the kernel adds the sparse bias before the gathered rows, the
    reference after them. -/
theorem out_eq (x : FVec Ideal S16384x13 .f32) (A : IVec S16384x26 32) (hA : ∀ j, (A j).toNat < 100000) (W : FVec Ideal S16x13 .f32)
    (b : FVec Ideal S16 .f32) (E : FVec Ideal S2600000x16 .f32) (sb : FVec Ideal S1x16 .f32) :
    outVal (F := Ideal) (shapeCast S425984 A shapeCasts_S16384x26_S425984)
        (k0_pay1 (F := Ideal) x (transpose S13x16 [1, 0] W transposes_S16x13_S13x16_1_0) (shapeCast S1x16 b shapeCasts_S16_S1x16) sb) E
      = whole x A W b E sb := by
  funext j
  obtain ⟨r, l, rfl⟩ : ∃ (r : Fin 16384) (l : Fin 16), j = ix2 r l := ⟨j 0, j 1, eq_ix2 j⟩
  refine (outVal_apply x A W b E sb r l).trans (Eq.trans ?_ (whole_apply x A hA W b E sb r l).symm)
  refine congrArg (fun s : EReal => max s 0) ?_
  abel

/-- Launched on equal arguments, the ids in range, the kernel's result is what the reference's run leaves. -/
theorem res_eq (m : (ℓ : Loc nD τ sig) → Buf (Elt Ideal) ℓ) (hm : Deal.PreOK (F := Ideal) m)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_out0 (F := Ideal) m' c = Deal.resV (F := Ideal) m c := by
  refine (RefValue.res_eq m' c).trans (Eq.trans ?_ (out_eq (m ((c.tc : Thread nD τ).loc main_arg0)) (m ((c.tc : Thread nD τ).loc main_arg1)) (hm c)
    (m ((c.tc : Thread nD τ).loc main_arg2)) (m ((c.tc : Thread nD τ).loc main_arg3)) (m ((c.tc : Thread nD τ).loc main_arg4))
    (m ((c.tc : Thread nD τ).loc main_arg5))).symm)
  rw [h0, h1, h2, h3, h4, h5]

end Cert.Proof.Equation

end
-- ==== Proof.lean ====
/-
  The claims, proved: the kernel's own program and its reading over the extended reals run alike, the reference runs, and on ids
  in range the kernel's result is the reference's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Pre
public import proofs.«01_k».proof.Proof.Equation

@[expose] public section

noncomputable section

namespace Cert.Proof

open Idealize.ShloMosaic Idealize.SL.Sem

attribute [local instance] Cert.Kernel.Gen.facts Cert.KernelIdeal.Gen.facts Cert.ReferenceIdeal.Gen.facts Cert.Pre_ids_in_range.Gen.facts

/-- The two programs' tables of bodies agree. -/
theorem bodies_eq {F : FTy → Type} [FloatOps F] : Cert.Kernel.defs₀ (F := F) = Cert.KernelIdeal.defs₀ := by
  funext p ℓ a
  match p, ℓ, a with
  | .tc, (0 : Fin 2), (t, s) => rfl
  | .tc, (1 : Fin 2), a => rfl
  | .scScalar c, (0 : Fin 2), a => rfl
  | .scScalar c, (1 : Fin 2), a => rfl
  | .scVector c s, (0 : Fin 2), a => rfl
  | .scVector c s, (1 : Fin 2), a => rfl

/-- The two programs have the same procedures. -/
theorem defs_eq {F : FTy → Type} [FloatOps F] : Cert.Kernel.defs (F := F) = Cert.KernelIdeal.defs :=
  congrArg (fun B => (Cert.KernelIdeal.sc (F := F)).defs (Pipeline.defs Cert.KernelIdeal.pcfgs B)) bodies_eq

/-- The kernel's program runs, leaves its arguments and every semaphore as it found them. -/
theorem frame_kernel : Cert.quiescent_Kernel := fun m ρ h => by
  rw [defs_eq]
  exact (θ_run (Cert.KernelIdeal.defs (F := Bits)) (Cert.KernelIdeal.threads (F := Bits)) ⟨m, fun _ => 0, ρ⟩).mono
    (fun r (h : Launch.QC m r) => ⟨fun c => (h.1 c).1, h.2⟩) (Launch.run_main (F := Bits) m ρ (Pre.ok_bits m h))

/-- So does its reading over the extended reals. -/
theorem frame_ideal : Cert.quiescent_KernelIdeal := fun m ρ h =>
  (θ_run Cert.KernelIdeal.defs _ _).mono (fun _ h => ⟨fun c => (h.1 c).1, h.2⟩) (Launch.run_main (F := Ideal) m ρ (Pre.ok_ideal m h))

/-- The reference runs from any memory, and leaves its arguments and every semaphore as it found them. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- On ids in range the kernel's result, over the extended reals, is the reference's. -/
theorem equal : Cert.algebraic_KernelIdeal_ReferenceIdeal := fun m g m' g' h ha =>
  ⟨Deal.resV (F := Ideal) m,
    (θ_run Cert.KernelIdeal.defs _ _).mono (fun _ h c => ⟨(h.1 c).2, (h.1 c).1⟩)
      (Launch.run_main (F := Ideal) m g (Pre.ok_ideal m h)),
    (θ_run Cert.ReferenceIdeal.defs _ _).mono
      (fun _ hr c => ⟨(hr c).1.trans (Equation.res_eq m (Pre.ok_ideal m h) m' c (ha c).1 (ha c).2.1 (ha c).2.2.1 (ha c).2.2.2.1
        (ha c).2.2.2.2.1 (ha c).2.2.2.2.2), (hr c).2⟩)
      (Cert.ReferenceIdeal.Value.run (F := Ideal) m' g')⟩

/-- Every claim. -/
theorem claim : Cert.Claim :=
  ⟨Cert.Kernel.Gen.facts, Cert.KernelIdeal.Gen.facts, Cert.ReferenceIdeal.Gen.facts, Cert.Pre_ids_in_range.Gen.facts, frame_kernel,
    frame_ideal, frame_ref, fun m ρ _ => frame_ref m ρ True.intro, trivial, equal⟩

end Cert.Proof

end
